-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2048x64 : Shape := ⟨3, ![256, 2048, 64]⟩
abbrev S64x128 : Shape := ⟨2, ![64, 128]⟩
abbrev S32x128 : Shape := ⟨2, ![32, 128]⟩
abbrev S128 : Shape := ⟨1, ![128]⟩
abbrev S2048x256x64 : Shape := ⟨3, ![2048, 256, 64]⟩
abbrev S_ : Shape := ⟨0, ![]⟩
abbrev S128x1 : Shape := ⟨2, ![128, 1]⟩
abbrev S1x128 : Shape := ⟨2, ![1, 128]⟩
abbrev S64x256 : Shape := ⟨2, ![64, 256]⟩
abbrev S32x512 : Shape := ⟨2, ![32, 512]⟩
abbrev S256 : Shape := ⟨1, ![256]⟩
abbrev S1x256 : Shape := ⟨2, ![1, 256]⟩
abbrev S2048x256x32 : Shape := ⟨3, ![2048, 256, 32]⟩
abbrev S64x256x64 : Shape := ⟨3, ![64, 256, 64]⟩
abbrev S64x256x32 : Shape := ⟨3, ![64, 256, 32]⟩
abbrev S256x32 : Shape := ⟨2, ![256, 32]⟩
abbrev S1x256x64 : Shape := ⟨3, ![1, 256, 64]⟩
abbrev S256x64 : Shape := ⟨2, ![256, 64]⟩
abbrev S256x256 : Shape := ⟨2, ![256, 256]⟩
abbrev S256x128 : Shape := ⟨2, ![256, 128]⟩
abbrev S256x512 : Shape := ⟨2, ![256, 512]⟩
abbrev S1x256x32 : Shape := ⟨3, ![1, 256, 32]⟩
abbrev S256x2048x32 : Shape := ⟨3, ![256, 2048, 32]⟩

abbrev nBuf : Space → Nat
  | .hbm => 79
  | .vmem => 9
  | .smem => 0
  | _ => 0

abbrev bufTy : (tb : Table) → Fin (tcTables nBuf tb) → BufTy
  | .hbm, ⟨0, _⟩ => ⟨S256x2048x64, .f32⟩
  | .hbm, ⟨1, _⟩ => ⟨S64x128, .f32⟩
  | .hbm, ⟨2, _⟩ => ⟨S32x128, .f32⟩
  | .hbm, ⟨3, _⟩ => ⟨S128, .f32⟩
  | .hbm, ⟨4, _⟩ => ⟨S128, .i32⟩
  | .hbm, ⟨5, _⟩ => ⟨S128, .i1⟩
  | .hbm, ⟨6, _⟩ => ⟨S128, .f32⟩
  | .hbm, ⟨7, _⟩ => ⟨S128, .i1⟩
  | .hbm, ⟨8, _⟩ => ⟨S128, .i1⟩
  | .hbm, ⟨9, _⟩ => ⟨S128, .i32⟩
  | .hbm, ⟨10, _⟩ => ⟨S128, .i1⟩
  | .hbm, ⟨11, _⟩ => ⟨S128, .i1⟩
  | .hbm, ⟨12, _⟩ => ⟨S128, .i32⟩
  | .hbm, ⟨13, _⟩ => ⟨S128, .i1⟩
  | .hbm, ⟨14, _⟩ => ⟨S128, .i32⟩
  | .hbm, ⟨15, _⟩ => ⟨S128, .i1⟩
  | .hbm, ⟨16, _⟩ => ⟨S128, .i1⟩
  | .hbm, ⟨17, _⟩ => ⟨S2048x256x64, .f32⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S128x1, .i32⟩
  | .hbm, ⟨23, _⟩ => ⟨S64x128, .f32⟩
  | .hbm, ⟨24, _⟩ => ⟨S1x128, .f32⟩
  | .hbm, ⟨25, _⟩ => ⟨S64x128, .f32⟩
  | .hbm, ⟨26, _⟩ => ⟨S64x128, .f32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S128x1, .i32⟩
  | .hbm, ⟨32, _⟩ => ⟨S32x128, .f32⟩
  | .hbm, ⟨33, _⟩ => ⟨S1x128, .f32⟩
  | .hbm, ⟨34, _⟩ => ⟨S32x128, .f32⟩
  | .hbm, ⟨35, _⟩ => ⟨S32x128, .f32⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S128x1, .i32⟩
  | .hbm, ⟨41, _⟩ => ⟨S128, .f32⟩
  | .hbm, ⟨42, _⟩ => ⟨S128, .f32⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S128x1, .i32⟩
  | .hbm, ⟨48, _⟩ => ⟨S64x128, .f32⟩
  | .hbm, ⟨49, _⟩ => ⟨S64x256, .f32⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S128, .i32⟩
  | .hbm, ⟨54, _⟩ => ⟨S128x1, .i32⟩
  | .hbm, ⟨55, _⟩ => ⟨S32x128, .f32⟩
  | .hbm, ⟨56, _⟩ => ⟨S_, .i32⟩
  | .hbm, ⟨57, _⟩ => ⟨S128, .i32⟩
  | .hbm, ⟨58, _⟩ => ⟨S128, .i32⟩
  | .hbm, ⟨59, _⟩ => ⟨S128, .i32⟩
  | .hbm, ⟨60, _⟩ => ⟨S128x1, .i32⟩
  | .hbm, ⟨61, _⟩ => ⟨S32x128, .f32⟩
  | .hbm, ⟨62, _⟩ => ⟨S_, .i32⟩
  | .hbm, ⟨63, _⟩ => ⟨S128, .i32⟩
  | .hbm, ⟨64, _⟩ => ⟨S128, .i32⟩
  | .hbm, ⟨65, _⟩ => ⟨S128, .i32⟩
  | .hbm, ⟨66, _⟩ => ⟨S128x1, .i32⟩
  | .hbm, ⟨67, _⟩ => ⟨S32x128, .f32⟩
  | .hbm, ⟨68, _⟩ => ⟨S32x512, .f32⟩
  | .hbm, ⟨69, _⟩ => ⟨S_, .i32⟩
  | .hbm, ⟨70, _⟩ => ⟨S128, .i32⟩
  | .hbm, ⟨71, _⟩ => ⟨S128, .i32⟩
  | .hbm, ⟨72, _⟩ => ⟨S128, .i32⟩
  | .hbm, ⟨73, _⟩ => ⟨S128x1, .i32⟩
  | .hbm, ⟨74, _⟩ => ⟨S128, .f32⟩
  | .hbm, ⟨75, _⟩ => ⟨S256, .f32⟩
  | .hbm, ⟨76, _⟩ => ⟨S1x256, .f32⟩
  | .hbm, ⟨77, _⟩ => ⟨S2048x256x32, .f32⟩
  | .hbm, ⟨78, _⟩ => ⟨S256x2048x32, .f32⟩
  | .local _ .vmem, ⟨0, _⟩ => ⟨S64x256x64, .f32⟩
  | .local _ .vmem, ⟨1, _⟩ => ⟨S64x256x64, .f32⟩
  | .local _ .vmem, ⟨2, _⟩ => ⟨S64x256, .f32⟩
  | .local _ .vmem, ⟨3, _⟩ => ⟨S32x512, .f32⟩
  | .local _ .vmem, ⟨4, _⟩ => ⟨S1x256, .f32⟩
  | .local _ .vmem, ⟨5, _⟩ => ⟨S64x256x32, .f32⟩
  | .local _ .vmem, ⟨6, _⟩ => ⟨S64x256x32, .f32⟩
  | .local _ .vmem, ⟨7, _⟩ => ⟨S256x32, .f32⟩
  | .local _ .vmem, ⟨8, _⟩ => ⟨S256x32, .f32⟩
  | _, _ => ⟨S256x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_c_8 : Ref sig .tc := ⟨.hbm, 14, rfl⟩
abbrev main_c_9 : Ref sig .tc := ⟨.hbm, 15, rfl⟩
abbrev main_c_10 : Ref sig .tc := ⟨.hbm, 16, rfl⟩
abbrev main_v0 : Ref sig .tc := ⟨.hbm, 17, rfl⟩
abbrev main_c_11 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_12 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_13 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_14 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_15 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_16 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_17 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_18 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_off1 (c0_i32_11 : BitVec 32) : Fin 3 → Nat :=
  let c0_i32_6 : BitVec 32 := 0#32
  let c64_i32 : BitVec 32 := 64#32
  let v9 : BitVec 32 := Scalar.muli c0_i32_6 c64_i32
  let v12 : BitVec 32 := Scalar.addi v9 c0_i32_11
  let v13 : Index := Scalar.indexCast v12
  let c0_12 : Index := 0#32
  let c0_13 : Index := 0#32
  ![v13.toNat, 0, 0]
def k0_off2 (c0_i32_11 : BitVec 32) : Fin 3 → Nat :=
  let c0_i32_6 : BitVec 32 := 0#32
  let c64_i32 : BitVec 32 := 64#32
  let v9 : BitVec 32 := Scalar.muli c0_i32_6 c64_i32
  let v12 : BitVec 32 := Scalar.addi v9 c0_i32_11
  let v57 : Index := Scalar.indexCast v12
  let c0_21 : Index := 0#32
  let c0_22 : Index := 0#32
  ![v57.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S256x2048x64 : Shape := ⟨3, ![256, 2048, 64]⟩
abbrev S64x128 : Shape := ⟨2, ![64, 128]⟩
abbrev S32x128 : Shape := ⟨2, ![32, 128]⟩
abbrev S128 : Shape := ⟨1, ![128]⟩
abbrev S256x2048x128 : Shape := ⟨3, ![256, 2048, 128]⟩
abbrev S1x1x128 : Shape := ⟨3, ![1, 1, 128]⟩
abbrev S2048x256x128 : Shape := ⟨3, ![2048, 256, 128]⟩
abbrev S_ : Shape := ⟨0, ![]⟩
abbrev S256x32 : Shape := ⟨2, ![256, 32]⟩
abbrev S2048x256x32 : Shape := ⟨3, ![2048, 256, 32]⟩
abbrev S1x256x128 : Shape := ⟨3, ![1, 256, 128]⟩
abbrev S256x128 : Shape := ⟨2, ![256, 128]⟩
abbrev S1x256x32 : Shape := ⟨3, ![1, 256, 32]⟩
abbrev S256x2048x32 : Shape := ⟨3, ![256, 2048, 32]⟩

abbrev nBuf : Space → Nat
  | .hbm => 71
  | .vmem => 0
  | .smem => 0
  | _ => 0

abbrev bufTy : (tb : Table) → Fin (tcTables nBuf tb) → BufTy
  | .hbm, ⟨0, _⟩ => ⟨S256x2048x64, .f32⟩
  | .hbm, ⟨1, _⟩ => ⟨S64x128, .f32⟩
  | .hbm, ⟨2, _⟩ => ⟨S32x128, .f32⟩
  | .hbm, ⟨3, _⟩ => ⟨S128, .f32⟩
  | .hbm, ⟨4, _⟩ => ⟨S256x2048x128, .f32⟩
  | .hbm, ⟨5, _⟩ => ⟨S1x1x128, .f32⟩
  | .hbm, ⟨6, _⟩ => ⟨S256x2048x128, .f32⟩
  | .hbm, ⟨7, _⟩ => ⟨S256x2048x128, .f32⟩
  | .hbm, ⟨8, _⟩ => ⟨S2048x256x128, .f32⟩
  | .hbm, ⟨9, _⟩ => ⟨S_, .f32⟩
  | .hbm, ⟨10, _⟩ => ⟨S256x32, .f32⟩
  | .hbm, ⟨11, _⟩ => ⟨S_, .f32⟩
  | .hbm, ⟨12, _⟩ => ⟨S256x32, .f32⟩
  | .hbm, ⟨13, _⟩ => ⟨S_, .f32⟩
  | .hbm, ⟨14, _⟩ => ⟨S2048x256x32, .f32⟩
  | .hbm, ⟨15, _⟩ => ⟨S_, .i32⟩
  | .hbm, ⟨16, _⟩ => ⟨S2048x256x128, .f32⟩
  | .hbm, ⟨17, _⟩ => ⟨S32x128, .f32⟩
  | .hbm, ⟨18, _⟩ => ⟨S_, .i32⟩
  | .hbm, ⟨19, _⟩ => ⟨S256x32, .f32⟩
  | .hbm, ⟨20, _⟩ => ⟨S256x32, .f32⟩
  | .hbm, ⟨21, _⟩ => ⟨S2048x256x32, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S1x256x128, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S256x32, .f32⟩
  | .hbm, ⟨31, _⟩ => ⟨S256x32, .f32⟩
  | .hbm, ⟨32, _⟩ => ⟨S256x32, .f32⟩
  | .hbm, ⟨33, _⟩ => ⟨S256x32, .f32⟩
  | .hbm, ⟨34, _⟩ => ⟨S256x32, .f32⟩
  | .hbm, ⟨35, _⟩ => ⟨S256x32, .f32⟩
  | .hbm, ⟨36, _⟩ => ⟨S_, .f32⟩
  | .hbm, ⟨37, _⟩ => ⟨S256x32, .f32⟩
  | .hbm, ⟨38, _⟩ => ⟨S256x32, .f32⟩
  | .hbm, ⟨39, _⟩ => ⟨S_, .f32⟩
  | .hbm, ⟨40, _⟩ => ⟨S256x32, .f32⟩
  | .hbm, ⟨41, _⟩ => ⟨S256x32, .f32⟩
  | .hbm, ⟨42, _⟩ => ⟨S256x32, .f32⟩
  | .hbm, ⟨43, _⟩ => ⟨S256x32, .f32⟩
  | .hbm, ⟨44, _⟩ => ⟨S256x32, .f32⟩
  | .hbm, ⟨45, _⟩ => ⟨S_, .f32⟩
  | .hbm, ⟨46, _⟩ => ⟨S256x32, .f32⟩
  | .hbm, ⟨47, _⟩ => ⟨S256x32, .f32⟩
  | .hbm, ⟨48, _⟩ => ⟨S_, .f32⟩
  | .hbm, ⟨49, _⟩ => ⟨S256x32, .f32⟩
  | .hbm, ⟨50, _⟩ => ⟨S256x32, .f32⟩
  | .hbm, ⟨51, _⟩ => ⟨S256x32, .f32⟩
  | .hbm, ⟨52, _⟩ => ⟨S256x32, .f32⟩
  | .hbm, ⟨53, _⟩ => ⟨S256x32, .f32⟩
  | .hbm, ⟨54, _⟩ => ⟨S256x32, .f32⟩
  | .hbm, ⟨55, _⟩ => ⟨S256x32, .f32⟩
  | .hbm, ⟨56, _⟩ => ⟨S_, .f32⟩
  | .hbm, ⟨57, _⟩ => ⟨S256x32, .f32⟩
  | .hbm, ⟨58, _⟩ => ⟨S256x32, .f32⟩
  | .hbm, ⟨59, _⟩ => ⟨S_, .f32⟩
  | .hbm, ⟨60, _⟩ => ⟨S256x32, .f32⟩
  | .hbm, ⟨61, _⟩ => ⟨S256x32, .f32⟩
  | .hbm, ⟨62, _⟩ => ⟨S256x32, .f32⟩
  | .hbm, ⟨63, _⟩ => ⟨S256x32, .f32⟩
  | .hbm, ⟨64, _⟩ => ⟨S1x256x32, .f32⟩
  | .hbm, ⟨65, _⟩ => ⟨S_, .i32⟩
  | .hbm, ⟨66, _⟩ => ⟨S_, .i32⟩
  | .hbm, ⟨67, _⟩ => ⟨S2048x256x32, .f32⟩
  | .hbm, ⟨68, _⟩ => ⟨S_, .i32⟩
  | .hbm, ⟨69, _⟩ => ⟨S_, .i32⟩
  | .hbm, ⟨70, _⟩ => ⟨S256x2048x32, .f32⟩
  | _, _ => ⟨S256x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_c : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_while0c_c_7 : Ref sig .tc := ⟨.hbm, 22, rfl⟩
abbrev main_while0c_v10 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_v0 : Ref sig .tc := ⟨.hbm, 26, rfl⟩
abbrev main_while0b_v10 : Ref sig .tc := ⟨.hbm, 27, rfl⟩
abbrev main_while0b_v11 : Ref sig .tc := ⟨.hbm, 28, rfl⟩
abbrev main_while0b_v12 : Ref sig .tc := ⟨.hbm, 29, rfl⟩
abbrev main_while0b_v13 : Ref sig .tc := ⟨.hbm, 30, rfl⟩
abbrev main_while0b_v14 : Ref sig .tc := ⟨.hbm, 31, rfl⟩
abbrev main_while0b_v15 : Ref sig .tc := ⟨.hbm, 32, rfl⟩
abbrev main_while0b_v16 : Ref sig .tc := ⟨.hbm, 33, rfl⟩
abbrev main_while0b_v17 : Ref sig .tc := ⟨.hbm, 34, rfl⟩
abbrev main_while0b_v18 : Ref sig .tc := ⟨.hbm, 35, rfl⟩
abbrev main_while0b_cst_7 : Ref sig .tc := ⟨.hbm, 36, rfl⟩
abbrev main_while0b_v19 : Ref sig .tc := ⟨.hbm, 37, rfl⟩
abbrev main_while0b_v20 : Ref sig .tc := ⟨.hbm, 38, rfl⟩
abbrev main_while0b_cst_8 : Ref sig .tc := ⟨.hbm, 39, rfl⟩
abbrev main_while0b_v21 : Ref sig .tc := ⟨.hbm, 40, rfl⟩
abbrev main_while0b_v22 : Ref sig .tc := ⟨.hbm, 41, rfl⟩
abbrev main_while0b_v23 : Ref sig .tc := ⟨.hbm, 42, rfl⟩
abbrev main_while0b_v24 : Ref sig .tc := ⟨.hbm, 43, rfl⟩
abbrev main_while0b_v25 : Ref sig .tc := ⟨.hbm, 44, rfl⟩
abbrev main_while0b_cst_9 : Ref sig .tc := ⟨.hbm, 45, rfl⟩
abbrev main_while0b_v26 : Ref sig .tc := ⟨.hbm, 46, rfl⟩
abbrev main_while0b_v27 : Ref sig .tc := ⟨.hbm, 47, rfl⟩
abbrev main_while0b_cst_10 : Ref sig .tc := ⟨.hbm, 48, rfl⟩
abbrev main_while0b_v28 : Ref sig .tc := ⟨.hbm, 49, rfl⟩
abbrev main_while0b_v29 : Ref sig .tc := ⟨.hbm, 50, rfl⟩
abbrev main_while0b_v30 : Ref sig .tc := ⟨.hbm, 51, rfl⟩
abbrev main_while0b_v31 : Ref sig .tc := ⟨.hbm, 52, rfl⟩
abbrev main_while0b_v32 : Ref sig .tc := ⟨.hbm, 53, rfl⟩
abbrev main_while0b_v33 : Ref sig .tc := ⟨.hbm, 54, rfl⟩
abbrev main_while0b_v34 : Ref sig .tc := ⟨.hbm, 55, rfl⟩
abbrev main_while0b_cst_11 : Ref sig .tc := ⟨.hbm, 56, rfl⟩
abbrev main_while0b_v35 : Ref sig .tc := ⟨.hbm, 57, rfl⟩
abbrev main_while0b_v36 : Ref sig .tc := ⟨.hbm, 58, rfl⟩
abbrev main_while0b_cst_12 : Ref sig .tc := ⟨.hbm, 59, rfl⟩
abbrev main_while0b_v37 : Ref sig .tc := ⟨.hbm, 60, rfl⟩
abbrev main_while0b_v38 : Ref sig .tc := ⟨.hbm, 61, rfl⟩
abbrev main_while0b_v39 : Ref sig .tc := ⟨.hbm, 62, rfl⟩
abbrev main_while0b_v40 : Ref sig .tc := ⟨.hbm, 63, rfl⟩
abbrev main_while0b_call1_v0 : Ref sig .tc := ⟨.hbm, 64, rfl⟩
abbrev main_while0b_call1_c : Ref sig .tc := ⟨.hbm, 65, rfl⟩
abbrev main_while0b_call1_c_0 : Ref sig .tc := ⟨.hbm, 66, rfl⟩
abbrev main_while0b_v41 : Ref sig .tc := ⟨.hbm, 67, rfl⟩
abbrev main_while0b_c_13 : Ref sig .tc := ⟨.hbm, 68, rfl⟩
abbrev main_while0b_v42 : Ref sig .tc := ⟨.hbm, 69, rfl⟩
abbrev main_v9 : Ref sig .tc := ⟨.hbm, 70, rfl⟩

abbrev nD : Nat := 1
abbrev τ : Topo := Topo.v7x

variable {F : FTy → Type} [FloatOps F]

abbrev main_while0_count : Scf.Loop 32 := ⟨0#32, 2048#32, 1#32⟩
-- ==== Proof.Cell.lean ====
/- One step of the recurrence as the kernel's body computes it, and the state after `n` steps of a block: definitions
   over any scalar type, in the kernel's own operations. -/
module

public import proofs.«01_k».proof.Proof.Gen.KernelIdeal.Frame

@[expose] public section

noncomputable section

namespace Cert.LSTM

open Idealize.ShloMosaic Cert.KernelIdeal Cert.KernelIdeal.Gen

variable {F : FTy → Type} [FloatOps F]

/-- A batch of hidden (or cell) vectors: 256 sequences, 32 units. -/
abbrev Hid (F : FTy → Type) := FVec F S256x32 .f32

/-- The input's share of the pre-activations of one step: `x · W + b`, 256 lanes. -/
def inShare (w : Vec F S64x256 .f32) (b : Vec F S1x256 .f32) (x : Vec F S1x256x64 .f32) : FVec F S256x256 .f32 :=
  addf (matmul dot_S256x64_S64x256_S256x256_1_0_0_1_n_n none (shapeCast S256x64 x shapeCasts_S1x256x64_S256x64)
      (shapeCast S64x256 w shapeCasts_S64x256_S64x256) (constant S256x256 .f32 0x00000000#32))
    (broadcastTo S256x256 (shapeCast S1x256 b shapeCasts_S1x256_S1x256) broadcasts_S1x256_S256x256)

/-- The hidden state's share: `h · U`, 512 lanes. -/
def hidShare (u : Vec F S32x512 .f32) (h : Hid F) : FVec F S256x512 .f32 :=
  matmul dot_S256x32_S32x512_S256x512_1_0_0_1_n_n none h (shapeCast S32x512 u shapeCasts_S32x512_S32x512)
    (constant S256x512 .f32 0x00000000#32)

/-- The four gates' hyperbolic tangents: each adds the lanes of the two shares that belong to the gate. -/
def tanhF (p : FVec F S256x256 .f32) (q : FVec F S256x512 .f32) : Hid F :=
  tanh (addf (extractStridedSlice S256x32 ![0, 0] p slices_S256x256_o0_0_S256x32)
    (extractStridedSlice S256x32 ![0, 0] q slices_S256x512_o0_0_S256x32))
@[inherit_doc tanhF] def tanhI (p : FVec F S256x256 .f32) (q : FVec F S256x512 .f32) : Hid F :=
  tanh (addf (extractStridedSlice S256x32 ![0, 128] p slices_S256x256_o0_128_S256x32)
    (extractStridedSlice S256x32 ![0, 128] q slices_S256x512_o0_128_S256x32))
@[inherit_doc tanhF] def tanhG (p : FVec F S256x256 .f32) (q : FVec F S256x512 .f32) : Hid F :=
  tanh (addf (extractStridedSlice S256x32 ![0, 0]
      (dynamicRotate 1 96#32 none (extractStridedSlice S256x128 ![0, 128] p slices_S256x256_o0_128_S256x128)
        rotates_S256x128_d1) slices_S256x128_o0_0_S256x32)
    (extractStridedSlice S256x32 ![0, 256] q slices_S256x512_o0_256_S256x32))
@[inherit_doc tanhF] def tanhO (p : FVec F S256x256 .f32) (q : FVec F S256x512 .f32) : Hid F :=
  tanh (addf (extractStridedSlice S256x32 ![0, 0]
      (dynamicRotate 1 32#32 none (extractStridedSlice S256x128 ![0, 0] p slices_S256x256_o0_0_S256x128)
        rotates_S256x128_d1) slices_S256x128_o0_0_S256x32)
    (extractStridedSlice S256x32 ![0, 384] q slices_S256x512_o0_384_S256x32))

/-- `½·t + ½`: the logistic function of a number, from the hyperbolic tangent `t` of its half. -/
def halve (t : Hid F) : Hid F :=
  addf (mulf (broadcast S256x32 (Scalar.ofBits .f32 0x3F000000#32)) t)
    (broadcast S256x32 (Scalar.ofBits .f32 0x3F000000#32))

/-- The next cell state. -/
def nextC (p : FVec F S256x256 .f32) (q : FVec F S256x512 .f32) (cell : Hid F) : Hid F :=
  addf (mulf (halve (tanhF p q)) cell) (mulf (halve (tanhI p q)) (tanhG p q))

/-- The next hidden state, from the next cell state. -/
def nextH (p : FVec F S256x256 .f32) (q : FVec F S256x512 .f32) (cell : Hid F) : Hid F :=
  mulf (halve (tanhO p q)) (tanh cell)

/-- One step: from (cell, hidden) and the step's inputs to the next (cell, hidden). -/
def stepS (w : Vec F S64x256 .f32) (u : Vec F S32x512 .f32) (b : Vec F S1x256 .f32) (x : Vec F S1x256x64 .f32)
    (s : Hid F × Hid F) : Hid F × Hid F :=
  (nextC (inShare w b x) (hidShare u s.2) s.1,
    nextH (inShare w b x) (hidShare u s.2) (nextC (inShare w b x) (hidShare u s.2) s.1))

/-- The state after `n` steps whose inputs are `rows 0`, `rows 1`, … -/
def stateAt (w : Vec F S64x256 .f32) (u : Vec F S32x512 .f32) (b : Vec F S1x256 .f32)
    (rows : ℕ → Vec F S1x256x64 .f32) (s : Hid F × Hid F) : ℕ → Hid F × Hid F
  | 0 => s
  | n + 1 => stepS w u b (rows n) (stateAt w u b rows s n)

section
variable (w : Vec F S64x256 .f32) (u : Vec F S32x512 .f32) (b : Vec F S1x256 .f32)

/-- The state after `n` steps depends on the first `n` rows only. -/
theorem stateAt_congr {rows rows' : ℕ → Vec F S1x256x64 .f32} (s : Hid F × Hid F) (n : ℕ)
    (h : ∀ k < n, rows k = rows' k) : stateAt w u b rows s n = stateAt w u b rows' s n := by
  induction n with
  | zero => rfl
  | succ n ih =>
    show stepS w u b (rows n) _ = stepS w u b (rows' n) _
    rw [ih fun k hk => h k (Nat.lt_succ_of_lt hk), h n (Nat.lt_succ_self n)]

/-- Running `n` steps and then `k` more is running `n + k`. -/
theorem stateAt_add (rows : ℕ → Vec F S1x256x64 .f32) (s : Hid F × Hid F) (n k : ℕ) :
    stateAt w u b (fun i => rows (n + i)) (stateAt w u b rows s n) k = stateAt w u b rows s (n + k) := by
  induction k with
  | zero => rfl
  | succ k ih =>
    exact congrArg (stepS w u b (rows (n + k))) ih
end

end Cert.LSTM

end
-- ==== Proof.Block.lean ====
/- What one block of 64 steps leaves: the run of the kernel's body, whose stores are 64 rows of the output and the two
   carried states, restated by the recursion `stateAt`. -/
module

public import proofs.«01_k».proof.Proof.Cell
public import Idealize.ShloMosaic.Lib.Pipeline.ValueKit
public import Idealize.ShloMosaic.Lib.Pointwise

@[expose] public section

set_option maxRecDepth 16384

noncomputable section

namespace Cert.LSTM

open Idealize.ShloMosaic Idealize.ShloMosaic.TcCoe Idealize.ShloMosaic.Tactic Cert.KernelIdeal Cert.KernelIdeal.Gen

variable {F : FTy → Type} [FloatOps F]

/-- A rectangle of one row stays inside the block of 64. -/
theorem row_inb {n d : ℕ} (k : ℕ) (hk : k < 64) : ∀ a : Fin 3, (![k, 0, 0] : Fin 3 → ℕ) a
    + (⟨3, ![1, n, d]⟩ : Shape).size a ≤ (⟨3, ![64, n, d]⟩ : Shape).size a := by
  intro a; fin_cases a
  · exact hk
  · exact (Nat.zero_add n).le
  · exact (Nat.zero_add d).le

/-- A step's place in its block of 64. -/
theorem mod64_lt (n : ℕ) : n % 64 < 64 := Nat.mod_lt n (by decide)
/-- A place counted from the block's end. -/
theorem sub63_lt (n : ℕ) : 63 - n < 64 := by omega

/-- Row `n` of a block of inputs. -/
def rowOf (x : Vec F S64x256x64 .f32) (n : ℕ) : Vec F S1x256x64 .f32 := fun j =>
  x ((Rect.unit (s := S64x256x64) ![n % 64, 0, 0] S1x256x64.size (row_inb _ (mod64_lt n))).toLoadRect.idx j)

/-- The same row as the body loads it from a staging buffer. -/
def loadRow (a : Memref sig .tc .vmem S64x256x64 .f32) (ha : a.IsWhole) (x : Vec F S64x256x64 .f32) (n : ℕ) :
    Vec F S1x256x64 .f32 :=
  View.readAt (Elt F) a.view (Rect.unit (s := S64x256x64) ![n % 64, 0, 0] S1x256x64.size
    (row_inb _ (mod64_lt n))).toLoadRect (ha.unread x)

/-- A row loaded from a block is that row of the block's contents. -/
theorem loadRow_eq (a : Memref sig .tc .vmem S64x256x64 .f32) (ha : a.IsWhole) (x : Vec F S64x256x64 .f32) :
    loadRow a ha x = rowOf x := by
  funext n j
  exact congrFun (ha.read_unread x) _

/-- The whole of a matrix as a rectangle names each index by itself. -/
theorem whole_idx {d e : ℕ}
    (h : ∀ k : Fin 2, (![0, 0] : Fin 2 → ℕ) k + (⟨2, ![d, e]⟩ : Shape).size k ≤ (⟨2, ![d, e]⟩ : Shape).size k)
    (j : (⟨2, ![d, e]⟩ : Shape).Idx) :
    (Rect.unit (s := ⟨2, ![d, e]⟩) ![0, 0] (⟨2, ![d, e]⟩ : Shape).size h).toLoadRect.idx j = j := by
  funext k
  apply Fin.ext
  fin_cases k
  · show 0 + 1 * (j 0).val = (j 0).val; omega
  · show 0 + 1 * (j 1).val = (j 1).val; omega

/-- A whole matrix as the body loads it from a staging or scratch buffer, -/
def loadAll {d e : ℕ} (a : Memref sig .tc .vmem ⟨2, ![d, e]⟩ .f32) (ha : a.IsWhole) (x : Vec F ⟨2, ![d, e]⟩ .f32)
    (h : ∀ k : Fin 2, (![0, 0] : Fin 2 → ℕ) k + (⟨2, ![d, e]⟩ : Shape).size k ≤ (⟨2, ![d, e]⟩ : Shape).size k) :
    Vec F ⟨2, ![d, e]⟩ .f32 :=
  View.readAt (Elt F) a.view (Rect.unit (s := ⟨2, ![d, e]⟩) ![0, 0] (⟨2, ![d, e]⟩ : Shape).size h).toLoadRect
    (ha.unread x)

/-- which is the matrix. -/
theorem loadAll_eq {d e : ℕ} (a : Memref sig .tc .vmem ⟨2, ![d, e]⟩ .f32) (ha : a.IsWhole)
    (x : Vec F ⟨2, ![d, e]⟩ .f32) (h) : loadAll a ha x h = x := by
  funext j
  exact (congrFun (ha.read_unread x) _).trans (congrArg x (whole_idx h j))

/-- The zero state the first point stores. -/
def zeroState : Hid F :=
  shapeCast S256x32 (broadcast S256x32 (Scalar.ofBits .f32 0x00000000#32)) shapeCasts_S256x32_S256x32

/-- A whole carried state as one stored piece. -/
abbrev wholePiece (v : Hid F) : View.Piece (Elt F) S256x32 .f32 :=
  ⟨Rect.unit (s := S256x32) ![0, 0] S256x32.size inb_S256x32_S256x32_0_0, v⟩

/-- Read back after others, it is the state. -/
theorem canon_wholePiece (v : Hid F) (L : List (View.Piece (Elt F) S256x32 .f32)) :
    View.canon (wholePiece v :: L) = v :=
  View.canon_cons_unit_zero (by funext k; fin_cases k <;> rfl) inb_S256x32_S256x32_0_0 v L

/-- A zeroed state as the body loads it back from the scratch buffer. -/
def loadZero (a : Memref sig .tc .vmem S256x32 .f32) : Hid F :=
  a.view.readCov [wholePiece (zeroState (F := F))]
    (Rect.unit (s := S256x32) ![0, 0] S256x32.size inb_S256x32_S256x32_0_0).toLoadRect

/-- The zero that the first grid point stores and reads back is the zero state. -/
theorem loadZero_eq (a : Memref sig .tc .vmem S256x32 .f32) : loadZero (F := F) a = zeroState := by
  unfold loadZero
  rw [View.readCov_eq_canon', canon_wholePiece]
  funext j
  exact congrArg zeroState (whole_idx _ j)

/-- The output's pieces for hidden states `f 0`, `f 1`, … after each step: the last row first. -/
def outPieces (f : ℕ → Hid F) : List (View.Piece (Elt F) S64x256x32 .f32) :=
  List.ofFn fun k : Fin 64 => ⟨Rect.unit (s := S64x256x32) ![63 - k.1, 0, 0] S1x256x32.size (row_inb _ (sub63_lt k.1)),
    shapeCast S1x256x32 (f (64 - k.1)) shapeCasts_S256x32_S1x256x32⟩

/-- Read back, row `r` of them is the hidden state after `r + 1` steps. -/
theorem canon_outPieces (f : ℕ → Hid F) (r : Fin 64) (p : Fin 256) (q : Fin 32) :
    View.canon (outPieces f) (ix3 r p q) = f (r.val + 1) (ix2 p q) := by
  unfold outPieces
  refine View.canon_ofFn_unit_eq_of_forall (Val := Elt F) (S := S64x256x32) (e := .f32)
    (fun k : Fin 64 => ![63 - k.1, 0, 0]) S1x256x32.size (fun k => row_inb _ (sub63_lt k.1))
    (fun k => shapeCast S1x256x32 (f (64 - k.1)) shapeCasts_S256x32_S1x256x32) (ix3 r p q) _ ?_ ?_
  · refine ⟨⟨63 - r.val, by omega⟩, fun a => ?_⟩
    have hr := r.isLt
    fin_cases a
    · show 63 - (63 - r.val) ≤ r.val ∧ r.val < 63 - (63 - r.val) + 1; omega
    · show 0 ≤ p.val ∧ p.val < 0 + 256; have := p.isLt; omega
    · show 0 ≤ q.val ∧ q.val < 0 + 32; have := q.isLt; omega
  · intro k x hx
    have h0 : r.val = 63 - k.val + (x 0).val := hx 0
    have h1 : p.val = 0 + (x 1).val := hx 1
    have h2 : q.val = 0 + (x 2).val := hx 2
    have hx0 : (x 0).val < 1 := (x 0).isLt
    have hk := k.isLt
    rw [shapeCast_apply (f (64 - k.1)) shapeCasts_S256x32_S1x256x32 x (ix2 p q) (by
      rw [Shape.rowMajor_val_two, Shape.rowMajor_val_three]
      show p.val * 32 + q.val = ((x 0).val * 256 + (x 1).val) * 32 + (x 2).val
      omega)]
    rw [show 64 - k.1 = r.val + 1 from by omega]

section
variable (c : Dev nD) (i : grid0.Coords)
  (arg1 : Memref sig .tc .vmem S64x256x64 .f32) (harg1 : arg1.IsWhole)
  (arg2 : Memref sig .tc .vmem S64x256 .f32) (harg2 : arg2.IsWhole)
  (arg3 : Memref sig .tc .vmem S32x512 .f32) (harg3 : arg3.IsWhole)
  (arg4 : Memref sig .tc .vmem S1x256 .f32) (harg4 : arg4.IsWhole)
  (arg5 : Memref sig .tc .vmem S64x256x32 .f32) (harg5 : arg5.IsWhole)
  (arg6 : Memref sig .tc .vmem S256x32 .f32) (harg6 : arg6.IsWhole)
  (arg7 : Memref sig .tc .vmem S256x32 .f32) (harg7 : arg7.IsWhole)
  (x0 : Vec F S64x256x64 .f32) (x1 : Vec F S64x256 .f32) (x2 : Vec F S32x512 .f32) (x3 : Vec F S1x256 .f32)

/-- The recursion over what the body loads from its staging buffers. -/
abbrev loaded (s : Hid F × Hid F) : ℕ → Hid F × Hid F :=
  stateAt (loadAll arg2 harg2 x1 inb_S64x256_S64x256_0_0) (loadAll arg3 harg3 x2 inb_S32x512_S32x512_0_0)
    (loadAll arg4 harg4 x3 inb_S1x256_S1x256_0_0) (loadRow arg1 harg1 x0) s

/-- It is the recursion over the blocks. -/
theorem loaded_eq (s : Hid F × Hid F) : loaded arg1 harg1 arg2 harg2 arg3 harg3 arg4 harg4 x0 x1 x2 x3 s
    = stateAt x1 x2 x3 (rowOf x0) s := by
  unfold loaded
  rw [loadAll_eq, loadAll_eq, loadAll_eq, loadRow_eq]

section
variable (hc0 : ¬cond0_0 i) (xs0 : Vec F S256x32 .f32) (xs1 : Vec F S256x32 .f32)

/-- A later point's stores into the output: row `k` holds the hidden state after `k + 1` steps from the carried state. -/
theorem rows_later :
    (kernelRun0_B c i arg1 harg1 arg2 harg2 arg3 harg3 arg4 harg4 arg5 harg5 arg6 harg6 arg7 harg7 hc0 x0 x1 x2 x3 xs0 xs1).1
      = outPieces fun k => (loaded arg1 harg1 arg2 harg2 arg3 harg3 arg4 harg4 x0 x1 x2 x3
          (loadAll arg6 harg6 xs0 inb_S256x32_S256x32_0_0, loadAll arg7 harg7 xs1 inb_S256x32_S256x32_0_0) k).2 := by
  sl_kernel_rfl

/-- Its store into the cell scratch: the cell state after 64 steps, -/
theorem cell_later :
    (kernelRun0_B c i arg1 harg1 arg2 harg2 arg3 harg3 arg4 harg4 arg5 harg5 arg6 harg6 arg7 harg7 hc0 x0 x1 x2 x3 xs0 xs1).2.1
      = [wholePiece (shapeCast S256x32 (loaded arg1 harg1 arg2 harg2 arg3 harg3 arg4 harg4 x0 x1 x2 x3
          (loadAll arg6 harg6 xs0 inb_S256x32_S256x32_0_0, loadAll arg7 harg7 xs1 inb_S256x32_S256x32_0_0) 64).1
          shapeCasts_S256x32_S256x32)] := by
  sl_kernel_rfl

/-- and into the hidden scratch. -/
theorem hidden_later :
    (kernelRun0_B c i arg1 harg1 arg2 harg2 arg3 harg3 arg4 harg4 arg5 harg5 arg6 harg6 arg7 harg7 hc0 x0 x1 x2 x3 xs0 xs1).2.2.1
      = [wholePiece (shapeCast S256x32 (loaded arg1 harg1 arg2 harg2 arg3 harg3 arg4 harg4 x0 x1 x2 x3
          (loadAll arg6 harg6 xs0 inb_S256x32_S256x32_0_0, loadAll arg7 harg7 xs1 inb_S256x32_S256x32_0_0) 64).2
          shapeCasts_S256x32_S256x32)] := by
  sl_kernel_rfl

/-- What a later point leaves in the output's staging buffer, at an index, -/
theorem out_later (r : Fin 64) (p : Fin 256) (q : Fin 32) :
    out0_B_4 c i arg1 harg1 arg2 harg2 arg3 harg3 arg4 harg4 arg5 harg5 arg6 harg6 arg7 harg7 hc0 x0 x1 x2 x3 xs0 xs1 (ix3 r p q)
      = (stateAt x1 x2 x3 (rowOf x0) (xs0, xs1) (r.val + 1)).2 (ix2 p q) := by
  unfold out0_B_4
  rw [View.read_writes_junk_eq_canon, rows_later, canon_outPieces, loaded_eq, loadAll_eq, loadAll_eq]

/-- in the cell scratch, -/
theorem cellOut_later :
    sout0_B_0 c i arg1 harg1 arg2 harg2 arg3 harg3 arg4 harg4 arg5 harg5 arg6 harg6 arg7 harg7 hc0 x0 x1 x2 x3 xs0 xs1 = (stateAt x1 x2 x3 (rowOf x0) (xs0, xs1) 64).1 := by
  unfold sout0_B_0
  rw [View.read_writes_junk_eq_canon, cell_later, canon_wholePiece, shapeCast_self, loaded_eq, loadAll_eq, loadAll_eq]

/-- and in the hidden scratch. -/
theorem hiddenOut_later :
    sout0_B_1 c i arg1 harg1 arg2 harg2 arg3 harg3 arg4 harg4 arg5 harg5 arg6 harg6 arg7 harg7 hc0 x0 x1 x2 x3 xs0 xs1 = (stateAt x1 x2 x3 (rowOf x0) (xs0, xs1) 64).2 := by
  unfold sout0_B_1
  rw [View.read_writes_junk_eq_canon, hidden_later, canon_wholePiece, shapeCast_self, loaded_eq, loadAll_eq, loadAll_eq]
end

section
variable (hc0 : cond0_0 i)

/-- The first point's stores into the output: the same from the zero state. -/
theorem rows_first :
    (kernelRun0_A c i arg1 harg1 arg2 harg2 arg3 harg3 arg4 harg4 arg5 harg5 arg6 harg6 arg7 harg7 hc0 x0 x1 x2 x3).1
      = outPieces fun k => (loaded arg1 harg1 arg2 harg2 arg3 harg3 arg4 harg4 x0 x1 x2 x3
          (loadZero arg6, loadZero arg7) k).2 := by
  sl_kernel_rfl

/-- Its stores into the cell scratch: the zero state, then the cell state after 64 steps, -/
theorem cell_first :
    (kernelRun0_A c i arg1 harg1 arg2 harg2 arg3 harg3 arg4 harg4 arg5 harg5 arg6 harg6 arg7 harg7 hc0 x0 x1 x2 x3).2.1
      = [wholePiece (shapeCast S256x32 (loaded arg1 harg1 arg2 harg2 arg3 harg3 arg4 harg4 x0 x1 x2 x3
          (loadZero arg6, loadZero arg7) 64).1 shapeCasts_S256x32_S256x32), wholePiece zeroState] := by
  sl_kernel_rfl

/-- and into the hidden scratch. -/
theorem hidden_first :
    (kernelRun0_A c i arg1 harg1 arg2 harg2 arg3 harg3 arg4 harg4 arg5 harg5 arg6 harg6 arg7 harg7 hc0 x0 x1 x2 x3).2.2.1
      = [wholePiece (shapeCast S256x32 (loaded arg1 harg1 arg2 harg2 arg3 harg3 arg4 harg4 x0 x1 x2 x3
          (loadZero arg6, loadZero arg7) 64).2 shapeCasts_S256x32_S256x32), wholePiece zeroState] := by
  sl_kernel_rfl

/-- What the first point leaves in the output's staging buffer, at an index, -/
theorem out_first (r : Fin 64) (p : Fin 256) (q : Fin 32) :
    out0_A_4 c i arg1 harg1 arg2 harg2 arg3 harg3 arg4 harg4 arg5 harg5 arg6 harg6 arg7 harg7 hc0 x0 x1 x2 x3 (ix3 r p q)
      = (stateAt x1 x2 x3 (rowOf x0) (zeroState, zeroState) (r.val + 1)).2 (ix2 p q) := by
  unfold out0_A_4
  rw [View.read_writes_junk_eq_canon, rows_first, canon_outPieces, loaded_eq, loadZero_eq, loadZero_eq]

/-- in the cell scratch, -/
theorem cellOut_first :
    sout0_A_0 c i arg1 harg1 arg2 harg2 arg3 harg3 arg4 harg4 arg5 harg5 arg6 harg6 arg7 harg7 hc0 x0 x1 x2 x3 = (stateAt x1 x2 x3 (rowOf x0) (zeroState, zeroState) 64).1 := by
  unfold sout0_A_0
  rw [View.read_writes_junk_eq_canon, cell_first, canon_wholePiece, shapeCast_self, loaded_eq, loadZero_eq, loadZero_eq]

/-- and in the hidden scratch. -/
theorem hiddenOut_first :
    sout0_A_1 c i arg1 harg1 arg2 harg2 arg3 harg3 arg4 harg4 arg5 harg5 arg6 harg6 arg7 harg7 hc0 x0 x1 x2 x3 = (stateAt x1 x2 x3 (rowOf x0) (zeroState, zeroState) 64).2 := by
  unfold sout0_A_1
  rw [View.read_writes_junk_eq_canon, hidden_first, canon_wholePiece, shapeCast_self, loaded_eq, loadZero_eq, loadZero_eq]
end
end

end Cert.LSTM

end
-- ==== Proof.Array.lean ====
/- What the kernel's output array holds when the grid is done: row `T` is the hidden state after `T + 1` steps from the
   zero state. By induction over the grid's points, whose scratch carries the state from block to block. -/
module

public import proofs.«01_k».proof.Proof.Block

@[expose] public section

set_option maxRecDepth 16384

noncomputable section

namespace Cert.LSTM

open Idealize.ShloMosaic Idealize.ShloMosaic.TcCoe Idealize.ShloMosaic.Tactic Cert.KernelIdeal Cert.KernelIdeal.Gen

variable {F : FTy → Type} [FloatOps F] (m : (ℓ : Loc nD τ sig) → Buf (Elt F) ℓ) (c : Dev nD)

/-- The kernel's operands, as the host leaves them: the inputs with time first, -/
def xs : Vec F S2048x256x64 .f32 := V m c main_v0
/-- the input weights, -/
def wIn : Vec F S64x256 .f32 := V m c main_v28
/-- the hidden weights, -/
def wHid : Vec F S32x512 .f32 := V m c main_v44
/-- and the bias. -/
def bias : Vec F S1x256 .f32 := V m c main_v51

/-- The inputs of step `n`. -/
def stepRow (x : Vec F S2048x256x64 .f32) (n : ℕ) : Vec F S1x256x64 .f32 := fun j =>
  x (ix3 ⟨n % 2048, Nat.mod_lt n (by decide)⟩ (j 1) (j 2))

/-- The kernel's state after `n` steps of the whole sequence. -/
def kernelState (n : ℕ) : Hid F × Hid F :=
  stateAt (wIn m c) (wHid m c) (bias m c) (stepRow (xs m c)) (zeroState, zeroState) n

/-- Where each window's block lies, at every point of the grid. -/
theorem windows : ∀ t : Fin cfg0.N, win0_0.index t = ![t.val, 0, 0] ∧ win0_1.index t = ![0, 0]
    ∧ win0_2.index t = ![0, 0] ∧ win0_3.index t = ![0, 0] ∧ win0_4.index t = ![t.val, 0, 0] :=
  (by decide +kernel : ∀ t : Fin grid0.N, win0_0.index t = ![t.val, 0, 0] ∧ win0_1.index t = ![0, 0]
    ∧ win0_2.index t = ![0, 0] ∧ win0_3.index t = ![0, 0] ∧ win0_4.index t = ![t.val, 0, 0])

/-- The input weights' block is the whole array. -/
theorem block_wIn (t : Fin cfg0.N) : iblk m c 1 t = wIn m c := by
  have h := (windows t).2.1
  funext y
  blk_simp [iblk]
  refine congrArg (V m c main_v28) ?_
  blk_ext [h]
/-- So are the hidden weights' -/
theorem block_wHid (t : Fin cfg0.N) : iblk m c 2 t = wHid m c := by
  have h := (windows t).2.2.1
  funext y
  blk_simp [iblk]
  refine congrArg (V m c main_v44) ?_
  blk_ext [h]
/-- and the bias's. -/
theorem block_bias (t : Fin cfg0.N) : iblk m c 3 t = bias m c := by
  have h := (windows t).2.2.2.1
  funext y
  blk_simp [iblk]
  refine congrArg (V m c main_v51) ?_
  blk_ext [h]

/-- Row `k` of point `t`'s block of inputs is step `64·t + k`'s row. -/
theorem block_row (t : Fin cfg0.N) (k : ℕ) (hk : k < 64) :
    rowOf (iblk m c 0 t) k = stepRow (xs m c) (64 * t.val + k) := by
  have h := (windows t).1
  have ht : t.val < 32 := lt_of_lt_of_eq t.isLt N_0
  funext y
  unfold rowOf iblk
  refine congrArg (V m c main_v0) ?_
  have hy : (y 0).val < 1 := (y 0).isLt
  funext a
  apply Fin.ext
  fin_cases a
  · show win0_0.index t 0 * 64 + 1 * (k % 64 + 1 * (y 0).val) = (64 * t.val + k) % 2048
    rw [h]
    show t.val * 64 + 1 * (k % 64 + 1 * (y 0).val) = (64 * t.val + k) % 2048
    omega
  · show win0_0.index t 1 * 256 + 1 * (0 + 1 * (y 1).val) = (y 1).val
    rw [h]
    show 0 * 256 + 1 * (0 + 1 * (y 1).val) = (y 1).val
    omega
  · show win0_0.index t 2 * 64 + 1 * (0 + 1 * (y 2).val) = (y 2).val
    rw [h]
    show 0 * 64 + 1 * (0 + 1 * (y 2).val) = (y 2).val
    omega

/-- A block's recursion is the sequence's, from where the block starts. -/
theorem block_state (t : Fin cfg0.N) (k : ℕ) (hk : k ≤ 64) :
    stateAt (iblk m c 1 t) (iblk m c 2 t) (iblk m c 3 t) (rowOf (iblk m c 0 t)) (kernelState m c (64 * t.val)) k
      = kernelState m c (64 * t.val + k) := by
  rw [block_wIn, block_wHid, block_bias,
    stateAt_congr _ _ _ _ k fun j hj => block_row m c t j (lt_of_lt_of_le hj hk)]
  exact stateAt_add _ _ _ _ _ _ _

/-- After point `n` the two scratch buffers hold the state after `64·(n + 1)` steps, and row `r` of the output's block
    is the hidden state after `64·n + r + 1`. -/
theorem outs_eq : ∀ (n : ℕ) (hn : n < cfg0.N),
    (outsAt0 m c n hn).2.1 = (kernelState m c (64 * (n + 1))).1 ∧ (outsAt0 m c n hn).2.2 = (kernelState m c (64 * (n + 1))).2
      ∧ ∀ (r : Fin 64) (p : Fin 256) (q : Fin 32),
        (outsAt0 m c n hn).1 (ix3 r p q) = (kernelState m c (64 * n + (r.val + 1))).2 (ix2 p q) := by
  intro n
  induction n with
  | zero =>
    intro hn
    have hs := block_state m c ⟨0, hn⟩
    rw [show kernelState m c (64 * (⟨0, hn⟩ : Fin cfg0.N).val) = (zeroState, zeroState) from rfl] at hs
    rw [outsAt0_A m c ⟨0, hn⟩ (Nat.zero_mod _)]
    refine ⟨?_, ?_, fun r p q => ?_⟩
    · rw [cellOut_first]
      have e := congrArg Prod.fst (hs 64 le_rfl)
      exact e
    · rw [hiddenOut_first]
      have e := congrArg Prod.snd (hs 64 le_rfl)
      exact e
    · dsimp only
      rw [out_first]
      exact congrFun (congrArg Prod.snd (hs (r.val + 1) r.isLt)) _
  | succ n ih =>
    intro hn
    have hN : cfg0.N = 32 := N_0
    have h0 : ¬(n + 1) % 32 = 0 := by omega
    obtain ⟨i1, i2, -⟩ := ih (Nat.lt_of_succ_lt hn)
    have hs := block_state m c ⟨n + 1, hn⟩
    rw [show kernelState m c (64 * (⟨n + 1, hn⟩ : Fin cfg0.N).val) = ((outsAt0 m c n (Nat.lt_of_succ_lt hn)).2.1,
      (outsAt0 m c n (Nat.lt_of_succ_lt hn)).2.2) from Prod.ext i1.symm i2.symm] at hs
    rw [outsAt0_B m c ⟨n + 1, hn⟩ h0]
    refine ⟨?_, ?_, fun r p q => ?_⟩
    · rw [cellOut_later]
      have e := congrArg Prod.fst (hs 64 le_rfl)
      exact e
    · rw [hiddenOut_later]
      have e := congrArg Prod.snd (hs 64 le_rfl)
      exact e
    · dsimp only
      rw [out_later]
      exact congrFun (congrArg Prod.snd (hs (r.val + 1) r.isLt)) _

/-- What the output array ends holding. -/
def hiddenRows : Vec F S2048x256x32 .f32 := fun i => (kernelState m c ((i 0).val + 1)).2 (ix2 (i 1) (i 2))

/-- The array of results after the last grid point is the array of hidden states. -/
theorem array_eq : (dats m 0 c).arrAt 4 cfg0.N = hiddenRows m c := by
  refine (dats m 0 c).arrAt_eq_of_covers 4 _ (by decide +kernel) fun t hf y => ?_
  have h := (windows t).2.2.2.2
  rw [after0_4]
  blk_simp
  have e := (outs_eq m c t.val t.isLt).2.2 (y 0) (y 1) (y 2)
  have hy : y = ix3 (y 0) (y 1) (y 2) := eq_ix3 y
  have h0 : ((((cfg0.win 4).blk t).view.emb y) 0).val = 64 * t.val + (y 0).val := by
    blk_simp [h]
    exact congrArg (· + (y 0).val) (Nat.mul_comm _ _)
  have h1 : (((cfg0.win 4).blk t).view.emb y) 1 = y 1 := Fin.ext (by blk_simp [h])
  have h2 : (((cfg0.win 4).blk t).view.emb y) 2 = y 2 := Fin.ext (by blk_simp [h])
  rw [hy]
  refine e.trans ?_
  unfold hiddenRows
  rw [← hy]
  blk_simp at h0 h1 h2 ⊢
  rw [h0, h1, h2]
  rfl

end Cert.LSTM

end
-- ==== Proof.KernelRun.lean ====
/- The kernel's run: its result array ends holding the hidden states, batch first, and its arguments end unchanged. -/
module

public import proofs.«01_k».proof.Proof.Array
public import Idealize.ShloMosaic.Lib.Claim
public import Idealize.ShloMosaic.Lib.StableHlo.ReadAt

@[expose] public section

noncomputable section

namespace Cert.LSTM

open Idealize.ShloMosaic Idealize.ShloMosaic.TcCoe Idealize.ShloMosaic.Tactic Cert.KernelIdeal Cert.KernelIdeal.Gen

variable {F : FTy → Type} [FloatOps F] (m : (ℓ : Loc nD τ sig) → Buf (Elt F) ℓ)

/-- The kernel's result: entry `(p, T, q)` is unit `q` of sequence `p`'s hidden state after `T + 1` steps. -/
def kernelResult (c : Dev nD) : Vec F S256x2048x32 .f32 := fun i => (kernelState m c ((i 1).val + 1)).2 (ix2 (i 0) (i 2))

/-- The host's last operation turns the array of hidden states batch first. -/
theorem tail_eq (c : Dev nD) : Pipeline.afterTail₀ cfgs (dats m) 0 (V0 m) [hostOps1] c main_v53 = kernelResult m c := by
  unfold Pipeline.afterTail₀
  after_reads_simp
  have e : Pipeline.withArrays (cfgs 0).spec c (V0 m c) (fun w => (dats m 0 c).arrAt w (cfgs 0).N)
      (Proc.devRef .tc main_v52) = hiddenRows m c :=
    (Pipeline.withArrays_arr (cfgs 0).spec (by decide) c (V0 m c) (fun w => (dats m 0 c).arrAt w (cfgs 0).N) 4).trans
      (array_eq m c)
  rw [e]
  funext i
  rw [eq_ix3 i]
  pointwise
  rfl

/-- Every execution of the kernel ends, its result at `kernelResult`, its arguments unchanged. -/
theorem kernel_run (ρ : Dev nD → PrngReg) : θ_run defs (onTc (τ := τ) (main (F := F))) ⟨m, fun _ => 0, ρ⟩ fun r => ∀ c : Dev nD,
      r.2.mem ((c : Thread nD τ).loc main_v53) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).2 main_v53 (Pipeline.mem_restRefs_of main_v53 (by decide) (by decide))).trans (tail_eq m c), h.2 c⟩)
    (θ_run_and (run_main m ρ) (unchanged m ρ))

end Cert.LSTM

end
-- ==== Proof.Host.lean ====
/- What the host leaves in the kernel's operands, entry by entry, in terms of the arguments: the inputs with time first;
   the weights' and the bias's columns regrouped by gate and scaled, and repeated turned round by 32, 64 and 96 columns. -/
module

public import proofs.«01_k».proof.Proof.Array
public import Idealize.ShloMosaic.Lib.StableHlo.ReadAt

@[expose] public section

noncomputable section

namespace Cert.LSTM

open Idealize.ShloMosaic Idealize.ShloMosaic.TcCoe Idealize.ShloMosaic.Tactic Cert.KernelIdeal Cert.KernelIdeal.Gen

/-! ## The constant tables -/

/-- The column of the arguments that column `l` of the regrouped ones is: the second and the first gate change places. -/
def gateCol (l : Fin 128) : Fin 128 := if l.val < 32 then ⟨(l.val + 32) % 128, Nat.mod_lt _ (by decide)⟩
  else if l.val < 64 then ⟨l.val - 32, by omega⟩ else l

/-- Column `j` of a row of copies of 128 columns, each copy turned round by 32 columns more than the one before. -/
def lane (j : ℕ) : Fin 128 := ⟨(j % 128 + 32 * (j / 128)) % 128, Nat.mod_lt _ (by decide)⟩

/-- The bits of column `l`'s scale: one for the cell candidate's gate, a half for the others. -/
def scaleBits (l : Fin 128) : BitVec 32 := if 64 ≤ l.val ∧ l.val < 96 then 0x3F800000#32 else 0x3F000000#32

/-- The table of the regrouping is `gateCol`. -/
theorem table_regroup : ∀ l : Fin 128, lit0 l = BitVec.ofNat 32 (gateCol l).val := by decide +kernel
/-- The table of scales is `scaleBits`. -/
theorem table_scale : ∀ l : Fin 128, lit1 l = scaleBits l := by decide +kernel
/-- The table of the second copy is `lane` there, -/
theorem table_turn32 : ∀ l : Fin 128, lit2 l = BitVec.ofNat 32 (lane (l.val + 128)).val := by decide +kernel
/-- that of the third likewise, -/
theorem table_turn64 : ∀ l : Fin 128, lit3 l = BitVec.ofNat 32 (lane (l.val + 256)).val := by decide +kernel
/-- and that of the fourth. -/
theorem table_turn96 : ∀ l : Fin 128, lit4 l = BitVec.ofNat 32 (lane (l.val + 384)).val := by decide +kernel

/-- The position of an entry of a vector is its index. -/
theorem rowMajor_vec (l : Fin 128) : S128.rowMajor (ix1 l) = l := Fin.ext (by
  rw [Shape.rowMajor_val_one]; rfl)

/-- The index array that the host makes of a table. -/
def tableIx (t : Fin 128 → BitVec 32) : IVec S128x1 32 :=
  broadcastInDim S128x1 ![0] bcast_S128_S128x1_0 (select (constantI S128 1 0#1)
    (addi (fun i => t (S128.rowMajor i)) (broadcastInDim S128 ![] bcast_S_S128 (constantI S_ 32 128#32)))
    fun i => t (S128.rowMajor i))

/-- Its entries are the table's (no entry is negative, so none is wrapped). -/
theorem tableIx_at (t : Fin 128 → BitVec 32) (l : Fin 128) : tableIx t (ix2 l 0) = t l := by
  unfold tableIx
  pointwise
  rw [rowMajor_vec]

variable {α : Type}

/-- A column's number read back from its 32 bits, and clamped, is itself. -/
theorem clamp_col (b : Fin 128) : min (BitVec.ofNat 32 b.val).toInt.toNat (128 - 1) = b.val := by
  revert b; decide +kernel

/-- A gather of columns, at an entry. -/
theorem columns64_at (x : S64x128.Idx → α) (ix : IVec S128x1 32) (k : Fin 64) (l b : Fin 128)
    (hb : ix (ix2 l 0) = BitVec.ofNat 32 b.val) :
    Host.gather gather_S64x128_S128x1_S64x128_0_1_n_n_1_1_641 x ix (ix2 k l) = x (ix2 k b) := by
  unfold Host.gather
  refine congrArg x (funext fun a => Fin.ext ?_)
  match a with
  | ⟨0, _⟩ => exact Nat.zero_add _
  | ⟨1, _⟩ =>
    show min (ix _).toInt.toNat (128 - 1) = b.val
    rw [← clamp_col b, ← hb]
    congr 4
    funext a
    match a with
    | ⟨0, _⟩ => rfl
    | ⟨1, _⟩ => rfl

@[inherit_doc columns64_at]
theorem columns32_at (x : S32x128.Idx → α) (ix : IVec S128x1 32) (k : Fin 32) (l b : Fin 128)
    (hb : ix (ix2 l 0) = BitVec.ofNat 32 b.val) :
    Host.gather gather_S32x128_S128x1_S32x128_0_1_n_n_1_1_321 x ix (ix2 k l) = x (ix2 k b) := by
  unfold Host.gather
  refine congrArg x (funext fun a => Fin.ext ?_)
  match a with
  | ⟨0, _⟩ => exact Nat.zero_add _
  | ⟨1, _⟩ =>
    show min (ix _).toInt.toNat (128 - 1) = b.val
    rw [← clamp_col b, ← hb]
    congr 4
    funext a
    match a with
    | ⟨0, _⟩ => rfl
    | ⟨1, _⟩ => rfl

/-- A gather of entries of a vector. -/
theorem entries_at (x : S128.Idx → α) (ix : IVec S128x1 32) (l b : Fin 128) (hb : ix (ix2 l 0) = BitVec.ofNat 32 b.val) :
    Host.gather gather_S128_S128x1_S128_n_0_n_n_0_1_1 x ix (ix1 l) = x (ix1 b) := by
  unfold Host.gather
  refine congrArg x (funext fun a => Fin.ext ?_)
  match a with
  | ⟨0, _⟩ =>
    show min (ix _).toInt.toNat (128 - 1) = b.val
    rw [← clamp_col b, ← hb]
    congr 4
    funext a
    match a with
    | ⟨0, _⟩ => rfl
    | ⟨1, _⟩ => rfl

/-! ## The operands -/

variable {F : FTy → Type} [FloatOps F] (m : (ℓ : Loc nD τ sig) → Buf (Elt F) ℓ) (c : Dev nD)

/-- The inputs, time first. -/
theorem xs_at (T : Fin 2048) (p : Fin 256) (k : Fin 64) :
    xs m c (ix3 T p k) = m ((c : Thread nD τ).loc main_arg0) (ix3 p T k) := by
  unfold xs V V0
  after_reads_at

/-- The lanes of the first copy are its columns. -/
theorem lane_first (j : ℕ) (h : j < 128) : lane j = ⟨j, h⟩ := Fin.ext (by unfold lane; dsimp only; omega)

/-- The lanes of a later copy. -/
theorem lane_sub (j : ℕ) (l : Fin 128) (a : ℕ) (h : j = l.val + a) : lane (l.val + a) = lane j := by rw [h]

/-- Column `l` of an array of weights, scaled for its gate: at row `k`, the entry of the regrouped array. -/
def scaled {n : ℕ} (W : (⟨2, ![n, 128]⟩ : Shape).Idx → F .f32) (k : Fin n) (l : Fin 128) : F .f32 :=
  FloatOps.mulf (W (ix2 k (gateCol l))) (FloatOps.ofBits .f32 (scaleBits l))

/-- The input weights regrouped and scaled, -/
def regroup64 (W : Vec F S64x128 .f32) : Vec F S64x128 .f32 :=
  mulf (Host.gather gather_S64x128_S128x1_S64x128_0_1_n_n_1_1_641 W (tableIx lit0))
    (broadcastInDim S64x128 ![0, 1] bcast_S1x128_S64x128_0_1
      (broadcastInDim S1x128 ![1] bcast_S128_S1x128_1 fun i => FloatOps.ofBits .f32 (lit1 (S128.rowMajor i))))
/-- the hidden weights, -/
def regroup32 (W : Vec F S32x128 .f32) : Vec F S32x128 .f32 :=
  mulf (Host.gather gather_S32x128_S128x1_S32x128_0_1_n_n_1_1_321 W (tableIx lit0))
    (broadcastInDim S32x128 ![0, 1] bcast_S1x128_S32x128_0_1
      (broadcastInDim S1x128 ![1] bcast_S128_S1x128_1 fun i => FloatOps.ofBits .f32 (lit1 (S128.rowMajor i))))
/-- and the bias. -/
def regroup1 (b : Vec F S128 .f32) : Vec F S128 .f32 :=
  mulf (Host.gather gather_S128_S128x1_S128_n_0_n_n_0_1_1 b (tableIx lit0))
    fun i => FloatOps.ofBits .f32 (lit1 (S128.rowMajor i))

/-- The regrouped input weights at an entry, -/
theorem regroup64_at (W : Vec F S64x128 .f32) (k : Fin 64) (l : Fin 128) : regroup64 W (ix2 k l) = scaled W k l := by
  unfold regroup64
  pointwise
  rw [columns64_at _ _ _ _ _ ((tableIx_at lit0 l).trans (table_regroup l)), rowMajor_vec, table_scale]
  rfl

/-- the hidden weights, -/
theorem regroup32_at (W : Vec F S32x128 .f32) (k : Fin 32) (l : Fin 128) : regroup32 W (ix2 k l) = scaled W k l := by
  unfold regroup32
  pointwise
  rw [columns32_at _ _ _ _ _ ((tableIx_at lit0 l).trans (table_regroup l)), rowMajor_vec, table_scale]
  rfl

/-- and the bias. -/
theorem regroup1_at (b : Vec F S128 .f32) (l : Fin 128) :
    regroup1 b (ix1 l) = FloatOps.mulf (b (ix1 (gateCol l))) (FloatOps.ofBits .f32 (scaleBits l)) := by
  unfold regroup1
  pointwise
  rw [entries_at _ _ _ _ ((tableIx_at lit0 l).trans (table_regroup l)), rowMajor_vec, table_scale]

/-- The input weights' two copies. -/
theorem wIn_at (k : Fin 64) (j : Fin 256) :
    wIn m c (ix2 k j) = scaled (m ((c : Thread nD τ).loc main_arg1)) k (lane j.val) := by
  unfold wIn V V0
  after_reads_at
  by_cases h : j.val < 128
  · rw [dif_pos h, lane_first j.val h]
    exact regroup64_at _ k ⟨j.val, h⟩
  · rw [dif_neg h]
    refine (columns64_at (regroup64 (m ((c : Thread nD τ).loc main_arg1))) (tableIx lit2) k ⟨j.val - 128, by omega⟩ _
      ((tableIx_at lit2 _).trans (table_turn32 _))).trans ?_
    rw [regroup64_at, lane_sub j.val _ _ (Nat.sub_add_cancel (not_lt.mp h)).symm]

/-- The hidden weights' four copies. -/
theorem wHid_at (k : Fin 32) (j : Fin 512) :
    wHid m c (ix2 k j) = scaled (m ((c : Thread nD τ).loc main_arg2)) k (lane j.val) := by
  have hj := j.isLt
  unfold wHid V V0
  after_reads_at
  by_cases h : j.val < 128
  · rw [dif_pos h, lane_first j.val h]
    after_reads_simp
    exact regroup32_at _ k ⟨j.val, h⟩
  rw [dif_neg h]
  by_cases h1 : j.val - 128 < 128
  · rw [dif_pos h1]
    after_reads_simp
    refine (columns32_at (regroup32 (m ((c : Thread nD τ).loc main_arg2))) (tableIx lit2) k ⟨j.val - 128, h1⟩ _
      ((tableIx_at lit2 _).trans (table_turn32 _))).trans ?_
    rw [regroup32_at, lane_sub j.val ⟨j.val - 128, h1⟩ 128 (by dsimp only; omega)]
  rw [dif_neg h1]
  by_cases h2 : j.val - 128 - 128 < 128
  · rw [dif_pos h2]
    after_reads_simp
    refine (columns32_at (regroup32 (m ((c : Thread nD τ).loc main_arg2))) (tableIx lit3) k ⟨j.val - 128 - 128, h2⟩ _
      ((tableIx_at lit3 _).trans (table_turn64 _))).trans ?_
    rw [regroup32_at, lane_sub j.val ⟨j.val - 128 - 128, h2⟩ 256 (by dsimp only; omega)]
  · rw [dif_neg h2]
    after_reads_simp
    refine (columns32_at (regroup32 (m ((c : Thread nD τ).loc main_arg2))) (tableIx lit4) k
      ⟨j.val - 128 - 128 - 128, by omega⟩ _ ((tableIx_at lit4 _).trans (table_turn96 _))).trans ?_
    rw [regroup32_at, lane_sub j.val ⟨j.val - 128 - 128 - 128, by omega⟩ 384 (by dsimp only; omega)]

/-- The bias's two copies. -/
theorem bias_at (j : Fin 256) :
    bias m c (ix2 0 j) = FloatOps.mulf (m ((c : Thread nD τ).loc main_arg3) (ix1 (gateCol (lane j.val))))
      (FloatOps.ofBits .f32 (scaleBits (lane j.val))) := by
  unfold bias V V0
  after_reads_at
  by_cases h : j.val < 128
  · rw [dif_pos h, lane_first j.val h]
    after_reads_simp
    exact regroup1_at _ ⟨j.val, h⟩
  · rw [dif_neg h]
    after_reads_simp
    refine (entries_at (regroup1 (m ((c : Thread nD τ).loc main_arg3))) (tableIx lit2) ⟨j.val - 128, by omega⟩ _
      ((tableIx_at lit2 _).trans (table_turn32 _))).trans ?_
    rw [regroup1_at, lane_sub j.val _ _ (Nat.sub_add_cancel (not_lt.mp h)).symm]

end Cert.LSTM

end
-- ==== Proof.Numbers.lean ====
/- Facts about extended reals: the logistic function from the hyperbolic tangent of half the argument, and a positive
   finite scale taken out of a sum. -/
module

public import Idealize.ShloMosaic.PureOps.Ideal.Laws
public import Idealize.ShloMosaic.Lib.IdealHost

@[expose] public section

noncomputable section

namespace Cert.LSTM

open Idealize.ShloMosaic

/-- The bits of a half denote a half. -/
theorem half_bits : Ideal.ofBits .f32 0x3F000000#32 = ((2⁻¹ : ℝ) : EReal) := by
  simp [Ideal.ofBits, Ideal.ieee]
  rw [← EReal.coe_mul]
  norm_num

/-- Of a real number `r`: `½·tanh(r/2) + ½ = 1/(1 + e⁻ʳ)`. -/
theorem half_tanh_real (r : ℝ) : 2⁻¹ * Real.tanh (r * 2⁻¹) + 2⁻¹ = (1 + Real.exp (-r))⁻¹ := by
  have e : Real.exp (-r) = Real.exp (-(r * 2⁻¹)) * Real.exp (-(r * 2⁻¹)) := by rw [← Real.exp_add]; congr 1; ring
  have h1 : Real.exp (r * 2⁻¹) * Real.exp (-(r * 2⁻¹)) = 1 := by rw [← Real.exp_add, add_neg_cancel, Real.exp_zero]
  rw [Real.tanh_eq_sinh_div_cosh, Real.sinh_eq, Real.cosh_eq, e]
  generalize Real.exp (-(r * 2⁻¹)) = b at *
  have ha : 0 < Real.exp (r * 2⁻¹) := Real.exp_pos _
  generalize Real.exp (r * 2⁻¹) = a at *
  have hb : 0 < b := by
    by_contra hb
    have : a * b ≤ 0 := mul_nonpos_of_nonneg_of_nonpos ha.le (not_lt.mp hb)
    linarith
  have h2 : a + b ≠ 0 := by positivity
  have h3 : 1 + b * b ≠ 0 := by positivity
  field_simp
  linear_combination (2 * b) * h1

/-- The same of every extended real: at `-∞` both sides are `0`, at `+∞` both are `1`. -/
theorem half_tanh (z : EReal) :
    ((2⁻¹ : ℝ) : EReal) * Ideal.tanh (z * ((2⁻¹ : ℝ) : EReal)) + ((2⁻¹ : ℝ) : EReal) = Ideal.logistic z := by
  have hp : (0 : ℝ) < 2⁻¹ := by norm_num
  induction z with
  | bot =>
    rw [EReal.bot_mul_coe_of_pos hp, Ideal.tanh_bot, Ideal.logistic_bot, ← EReal.coe_one, ← EReal.coe_neg, ← EReal.coe_mul,
      ← EReal.coe_add, ← EReal.coe_zero]
    norm_num
  | top =>
    rw [EReal.top_mul_coe_of_pos hp, Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add, half_tanh_real]

/-- A scale that is a nonnegative real comes out of a sum of two. -/
theorem add_scale {s : ℝ} (hs : 0 ≤ s) (a b : EReal) : a * s + b * s = (a + b) * s :=
  (EReal.right_distrib_of_nonneg_of_ne_top (EReal.coe_nonneg.mpr hs) (EReal.coe_ne_top s) a b).symm

/-- It comes out of a sum of products, one factor of each scaled. -/
theorem sum_scale {n : ℕ} {s : ℝ} (hs : 0 ≤ s) (f g : Fin n → EReal) :
    ∑ k, f k * (g k * s) = (∑ k, f k * g k) * s := by
  simp only [← mul_assoc]
  generalize (Finset.univ : Finset (Fin n)) = S
  induction S using Finset.cons_induction with
  | empty => rw [Finset.sum_empty, Finset.sum_empty, zero_mul]
  | cons a S h ih => rw [Finset.sum_cons, Finset.sum_cons, ih, add_scale hs]

end Cert.LSTM

end
-- ==== Proof.Recurrence.lean ====
/- The recurrence itself, on extended reals: one step of a long short-term memory cell and the state after `n` steps,
   in terms of the program's arguments. Columns `0…31`, `32…63`, `64…95` and `96…127` of the weights are the input gate, the
   forget gate, the cell candidate and the output gate. -/
module

public import Idealize.ShloMosaic.PureOps.Ideal.Laws
public import Idealize.ShloMosaic.Lib.Pointwise.Index

@[expose] public section

noncomputable section

namespace Cert.LSTM

open Idealize.ShloMosaic

/-- The arguments: inputs, input weights, hidden weights, bias. -/
structure Args where
  x : (⟨3, ![256, 2048, 64]⟩ : Shape).Idx → EReal
  w : (⟨2, ![64, 128]⟩ : Shape).Idx → EReal
  u : (⟨2, ![32, 128]⟩ : Shape).Idx → EReal
  b : (⟨1, ![128]⟩ : Shape).Idx → EReal

/-- The input's part of pre-activation `l` of sequence `p` at step `n`. (Steps are counted round the 2048 there are.) -/
def Args.drive (a : Args) (n : ℕ) (p : Fin 256) (l : Fin 128) : EReal :=
  (∑ k : Fin 64, a.x (ix3 p ⟨n % 2048, Nat.mod_lt _ (by decide)⟩ k) * a.w (ix2 k l)) + a.b (ix1 l)

/-- Pre-activation `l`, the hidden state being `h`. -/
def Args.gate (a : Args) (n : ℕ) (h : Fin 256 → Fin 32 → EReal) (p : Fin 256) (l : Fin 128) : EReal :=
  a.drive n p l + ∑ k : Fin 32, h p k * a.u (ix2 k l)

/-- The column of unit `q` of gate `g`. -/
def unitOf (g : Fin 4) (q : Fin 32) : Fin 128 := ⟨32 * g.val + q.val, by omega⟩

/-- The next cell state: what the forget gate keeps and what the input gate lets in of the candidate. -/
def Args.cellOf (a : Args) (n : ℕ) (c h : Fin 256 → Fin 32 → EReal) (p : Fin 256) (q : Fin 32) : EReal :=
  Ideal.logistic (a.gate n h p (unitOf 1 q)) * c p q
    + Ideal.logistic (a.gate n h p (unitOf 0 q)) * Ideal.tanh (a.gate n h p (unitOf 2 q))

/-- The next hidden state, the next cell state being `c`. -/
def Args.hiddenOf (a : Args) (n : ℕ) (c h : Fin 256 → Fin 32 → EReal) (p : Fin 256) (q : Fin 32) : EReal :=
  Ideal.logistic (a.gate n h p (unitOf 3 q)) * Ideal.tanh (c p q)

/-- The cell state and the hidden state after `n` steps from zero. -/
def Args.state (a : Args) : ℕ → (Fin 256 → Fin 32 → EReal) × (Fin 256 → Fin 32 → EReal)
  | 0 => (fun _ _ => 0, fun _ _ => 0)
  | n + 1 => (a.cellOf n (a.state n).1 (a.state n).2,
      a.hiddenOf n (a.cellOf n (a.state n).1 (a.state n).2) (a.state n).2)

/-- The hidden states, batch first: entry `(r, T, i)` is unit `i` of sequence `r`'s after `T + 1` steps. -/
def Args.hiddens (a : Args) : (⟨3, ![256, 2048, 32]⟩ : Shape).Idx → EReal := fun j => (a.state ((j 1).val + 1)).2 (j 0) (j 2)

end Cert.LSTM

end
-- ==== Proof.Equation.lean ====
/- The kernel's recurrence is the mathematical one: entry by entry its gates' inputs are the pre-activations scaled by a
   half (by one for the candidate), so its states are the recurrence's. -/
module

public import proofs.«01_k».proof.Proof.Host
public import proofs.«01_k».proof.Proof.KernelRun
public import proofs.«01_k».proof.Proof.Numbers
public import proofs.«01_k».proof.Proof.Recurrence
public import Idealize.ShloMosaic.Lib.Pointwise

@[expose] public section

noncomputable section

namespace Cert.LSTM

open Idealize.ShloMosaic Idealize.ShloMosaic.TcCoe Idealize.ShloMosaic.Tactic Cert.KernelIdeal Cert.KernelIdeal.Gen

/-! ## The body's operations at an entry -/

section
variable (w : Vec Ideal S64x256 .f32) (u : Vec Ideal S32x512 .f32) (b : Vec Ideal S1x256 .f32) (x : Vec Ideal S1x256x64 .f32)
variable (p : FVec Ideal S256x256 .f32) (q : FVec Ideal S256x512 .f32) (h : Hid Ideal) (r : Fin 256) (i : Fin 32)

/-- The input's share: a row of the block times a column of the weights, and the column's bias. -/
theorem inShare_at (j : Fin 256) :
    inShare w b x (ix2 r j) = (∑ k : Fin 64, x (ix3 0 r k) * w (ix2 k j)) + b (ix2 0 j) := by
  unfold inShare
  pointwise

/-- The hidden state's share. -/
theorem hidShare_at (j : Fin 512) : hidShare u h (ix2 r j) = ∑ k : Fin 32, h (ix2 r k) * u (ix2 k j) := by
  unfold hidShare
  pointwise

/-- The lanes whose sum each gate's tangent is taken of: the forget gate's, -/
theorem tanhF_at : tanhF p q (ix2 r i) = Ideal.tanh (p (ix2 r ⟨i.val, by omega⟩) + q (ix2 r ⟨i.val, by omega⟩)) := by
  unfold tanhF
  pointwise

/-- the input gate's, -/
theorem tanhI_at :
    tanhI p q (ix2 r i) = Ideal.tanh (p (ix2 r ⟨128 + i.val, by omega⟩) + q (ix2 r ⟨128 + i.val, by omega⟩)) := by
  unfold tanhI
  pointwise

/-- the candidate's, which a rotation brings to the front of its half, -/
theorem tanhG_at :
    tanhG p q (ix2 r i) = Ideal.tanh (p (ix2 r ⟨160 + i.val, by omega⟩) + q (ix2 r ⟨256 + i.val, by omega⟩)) := by
  unfold tanhG
  pointwise
  congr 5
  omega

/-- and the output gate's, likewise. -/
theorem tanhO_at :
    tanhO p q (ix2 r i) = Ideal.tanh (p (ix2 r ⟨96 + i.val, by omega⟩) + q (ix2 r ⟨384 + i.val, by omega⟩)) := by
  unfold tanhO
  pointwise
  congr 5
  omega

/-- The affine map from the tangent to the gate. -/
theorem halve_at (t : Hid Ideal) : halve t (ix2 r i) = ((2⁻¹ : ℝ) : EReal) * t (ix2 r i) + ((2⁻¹ : ℝ) : EReal) := by
  unfold halve
  pointwise
  rw [half_bits]
end

/-! ## The pre-activations -/

variable (m : (ℓ : Loc nD τ sig) → Buf (Elt Ideal) ℓ) (c : Dev nD)

/-- The program's arguments. -/
def argsOf : Args where
  x := m ((c : Thread nD τ).loc main_arg0)
  w := m ((c : Thread nD τ).loc main_arg1)
  u := m ((c : Thread nD τ).loc main_arg2)
  b := m ((c : Thread nD τ).loc main_arg3)

/-- The scale of column `l`, a real number. -/
def scaleOf (l : Fin 128) : ℝ := if 64 ≤ l.val ∧ l.val < 96 then 1 else 2⁻¹

/-- No scale is negative. -/
theorem scaleOf_nonneg (l : Fin 128) : 0 ≤ scaleOf l := by unfold scaleOf; split <;> norm_num

/-- The bits of a column's scale denote its scale. -/
theorem scale_bits (l : Fin 128) : Ideal.ofBits .f32 (scaleBits l) = ((scaleOf l : ℝ) : EReal) := by
  unfold scaleBits scaleOf
  split
  · rw [Ideal.ofBits_one_f32, EReal.coe_one]
  · exact half_bits

/-- An entry of a scaled column is the argument's entry times the scale. -/
theorem scaled_eq {n : ℕ} (W : (⟨2, ![n, 128]⟩ : Shape).Idx → EReal) (k : Fin n) (l : Fin 128) :
    scaled (F := Ideal) W k l = W (ix2 k (gateCol l)) * ((scaleOf l : ℝ) : EReal) :=
  congrArg (W (ix2 k (gateCol l)) * ·) (scale_bits l)

/-- The sum of the two shares at lanes that hold the same column is that column's pre-activation, scaled. -/
theorem lanes_at (n : ℕ) (h : Hid Ideal) (H : Fin 256 → Fin 32 → EReal) (hH : ∀ p q, h (ix2 p q) = H p q) (r : Fin 256)
    (j : Fin 256) (j' : Fin 512) (l : Fin 128) (hj : lane j.val = l) (hj' : lane j'.val = l) :
    inShare (wIn m c) (bias m c) (stepRow (xs m c) n) (ix2 r j) + hidShare (wHid m c) h (ix2 r j')
      = (argsOf m c).gate n H r (gateCol l) * ((scaleOf l : ℝ) : EReal) := by
  have hx : ∀ k : Fin 64, stepRow (xs m c) n (ix3 0 r k) = (argsOf m c).x (ix3 r ⟨n % 2048, Nat.mod_lt _ (by decide)⟩ k) :=
    fun k => xs_at m c ⟨n % 2048, Nat.mod_lt _ (by decide)⟩ r k
  have hb : bias m c (ix2 0 j) = (argsOf m c).b (ix1 (gateCol l)) * ((scaleOf l : ℝ) : EReal) := by
    rw [bias_at, hj, ← scale_bits]; rfl
  rw [inShare_at, hidShare_at, hb]
  simp only [hx, hH, wIn_at, wHid_at, hj, hj', scaled_eq]
  unfold Args.gate Args.drive
  rw [← add_scale (scaleOf_nonneg l), ← add_scale (scaleOf_nonneg l), ← sum_scale (scaleOf_nonneg l),
    ← sum_scale (scaleOf_nonneg l)]
  rfl

section
variable (n : ℕ) (h : Hid Ideal) (H : Fin 256 → Fin 32 → EReal) (hH : ∀ p q, h (ix2 p q) = H p q) (r : Fin 256) (i : Fin 32)
include hH

/-- The scale of a gate that is not the candidate's, and its column. -/
theorem sigmoid_at (j : Fin 256) (j' : Fin 512) (l u : Fin 128) (hj : lane j.val = l) (hj' : lane j'.val = l)
    (hl : ¬ (64 ≤ l.val ∧ l.val < 96)) (hu : gateCol l = u) :
    ((2⁻¹ : ℝ) : EReal) * Ideal.tanh (inShare (wIn m c) (bias m c) (stepRow (xs m c) n) (ix2 r j)
        + hidShare (wHid m c) h (ix2 r j')) + ((2⁻¹ : ℝ) : EReal)
      = Ideal.logistic ((argsOf m c).gate n H r u) := by
  rw [lanes_at m c n h H hH r j j' l hj hj', scaleOf, if_neg hl, half_tanh, hu]

/-- The forget gate, -/
theorem forget_at : halve (tanhF (inShare (wIn m c) (bias m c) (stepRow (xs m c) n)) (hidShare (wHid m c) h)) (ix2 r i)
    = Ideal.logistic ((argsOf m c).gate n H r (unitOf 1 i)) := by
  rw [halve_at, tanhF_at]
  exact sigmoid_at m c n h H hH r _ _ ⟨i.val, by omega⟩ _ (Fin.ext (by simp only [lane]; omega))
    (Fin.ext (by simp only [lane]; omega)) (by dsimp only; omega)
    (Fin.ext (by simp only [gateCol, unitOf, if_pos i.isLt]; omega))

/-- the input gate, -/
theorem input_at : halve (tanhI (inShare (wIn m c) (bias m c) (stepRow (xs m c) n)) (hidShare (wHid m c) h)) (ix2 r i)
    = Ideal.logistic ((argsOf m c).gate n H r (unitOf 0 i)) := by
  rw [halve_at, tanhI_at]
  have h1 : ¬ 32 + i.val < 32 := by omega
  have h2 : 32 + i.val < 64 := by omega
  exact sigmoid_at m c n h H hH r _ _ ⟨32 + i.val, by omega⟩ _ (Fin.ext (by simp only [lane]; omega))
    (Fin.ext (by simp only [lane]; omega)) (by dsimp only; omega)
    (Fin.ext (by simp only [gateCol, unitOf, if_neg h1, if_pos h2]; omega))

/-- the output gate, -/
theorem output_at : halve (tanhO (inShare (wIn m c) (bias m c) (stepRow (xs m c) n)) (hidShare (wHid m c) h)) (ix2 r i)
    = Ideal.logistic ((argsOf m c).gate n H r (unitOf 3 i)) := by
  rw [halve_at, tanhO_at]
  have h1 : ¬ 96 + i.val < 32 := by omega
  have h2 : ¬ 96 + i.val < 64 := by omega
  exact sigmoid_at m c n h H hH r _ _ ⟨96 + i.val, by omega⟩ _ (Fin.ext (by simp only [lane]; omega))
    (Fin.ext (by simp only [lane]; omega)) (by dsimp only; omega)
    (Fin.ext (by simp only [gateCol, unitOf, if_neg h1, if_neg h2]; rfl))

/-- and the candidate. -/
theorem candidate_at : tanhG (inShare (wIn m c) (bias m c) (stepRow (xs m c) n)) (hidShare (wHid m c) h) (ix2 r i)
    = Ideal.tanh ((argsOf m c).gate n H r (unitOf 2 i)) := by
  have h1 : ¬ 64 + i.val < 32 := by omega
  have h2 : ¬ 64 + i.val < 64 := by omega
  have h3 : 64 ≤ 64 + i.val ∧ 64 + i.val < 96 := by omega
  have hu : gateCol ⟨64 + i.val, by omega⟩ = unitOf 2 i :=
    Fin.ext (by simp only [gateCol, unitOf, if_neg h1, if_neg h2]; rfl)
  rw [tanhG_at, lanes_at m c n h H hH r _ _ ⟨64 + i.val, by omega⟩ (Fin.ext (by simp only [lane]; omega))
    (Fin.ext (by simp only [lane]; omega)), hu, scaleOf, if_pos h3, EReal.coe_one, mul_one]
end

/-! ## The states -/

/-- One step of the kernel is one step of the recurrence. -/
theorem stepS_at (n : ℕ) (s : Hid Ideal × Hid Ideal) (C H : Fin 256 → Fin 32 → EReal) (hC : ∀ p q, s.1 (ix2 p q) = C p q)
    (hH : ∀ p q, s.2 (ix2 p q) = H p q) (r : Fin 256) (i : Fin 32) :
    (stepS (wIn m c) (wHid m c) (bias m c) (stepRow (xs m c) n) s).1 (ix2 r i) = (argsOf m c).cellOf n C H r i
    ∧ (stepS (wIn m c) (wHid m c) (bias m c) (stepRow (xs m c) n) s).2 (ix2 r i)
      = (argsOf m c).hiddenOf n ((argsOf m c).cellOf n C H) H r i := by
  have e : (stepS (wIn m c) (wHid m c) (bias m c) (stepRow (xs m c) n) s).1 (ix2 r i) = (argsOf m c).cellOf n C H r i := by
    unfold Args.cellOf
    rw [← forget_at m c n s.2 H hH r i, ← input_at m c n s.2 H hH r i, ← candidate_at m c n s.2 H hH r i, ← hC]
    rfl
  refine ⟨e, ?_⟩
  unfold Args.hiddenOf
  rw [← output_at m c n s.2 H hH r i, ← e]
  rfl

/-- The zero state's entries are zero. -/
theorem zeroState_at (r : Fin 256) (i : Fin 32) : zeroState (F := Ideal) (ix2 r i) = 0 := by
  unfold zeroState
  pointwise

/-- The kernel's states are the recurrence's. -/
theorem kernelState_at (n : ℕ) : (∀ r i, (kernelState m c n).1 (ix2 r i) = ((argsOf m c).state n).1 r i)
    ∧ ∀ r i, (kernelState m c n).2 (ix2 r i) = ((argsOf m c).state n).2 r i := by
  induction n with
  | zero => exact ⟨zeroState_at, zeroState_at⟩
  | succ n ih =>
    have e := stepS_at m c n (kernelState m c n) _ _ ih.1 ih.2
    exact ⟨fun r i => (e r i).1, fun r i => (e r i).2⟩

/-- The kernel's result is the recurrence's hidden states. -/
theorem kernelResult_eq : kernelResult m c = (argsOf m c).hiddens :=
  funext fun j => (kernelState_at m c ((j 1).val + 1)).2 (j 0) (j 2)

end Cert.LSTM

end
-- ==== Proof.Reference.lean ====
/- What the reference computes: its loop carries the recurrence's states, and writes each step's hidden state into the row
   of that step. -/
module

public import proofs.«01_k».proof.Proof.Gen.ReferenceIdeal.Run
public import proofs.«01_k».proof.Proof.Recurrence
public import Idealize.ShloMosaic.Lib.IdealHost
public import Idealize.ShloMosaic.Lib.Pointwise
public import Idealize.ShloMosaic.Lib.StableHlo.ReadAt

@[expose] public section

noncomputable section

namespace Cert.LSTM

open Idealize.ShloMosaic Idealize.ShloMosaic.TcCoe Idealize.ShloMosaic.Tactic Idealize.ShloMosaic.StableHlo
open Cert.ReferenceIdeal Cert.ReferenceIdeal.Gen Cert.ReferenceIdeal.Value

/-! ## A row read, a row written -/

/-- The starting index of a row, from the loop's counter. -/
def startOf (k : IVec S_ 32) : Fin 3 → Int :=
  fun a => ((![k, constantI S_ 32 0#32, constantI S_ 32 0#32] : Fin 3 → IVec S_ 32) a (Shape.Idx.first h_S_)).toInt

section
variable {α : Type} (k : IVec S_ 32) (n : ℕ) (hn : n < 2048) (hk : k = fun _ => BitVec.ofNat 32 n)
include hn hk

/-- The start on the first axis is the counter. -/
theorem startOf_row : startOf k 0 = n := by
  subst hk
  show (BitVec.ofNat 32 n).toInt = n
  rw [BitVec.toInt_ofNat', Int.bmod_def]
  omega

/-- The slice at the counter is the counter's row. -/
theorem slice_at (X : S2048x256x128.Idx → α) (r : Fin 256) (l : Fin 128) :
    shapeCast S256x128 (Host.dynamicSlice S1x256x128 X (startOf k) sliceFits_S2048x256x128_S1x256x128)
      shapeCasts_S1x256x128_S256x128 (ix2 r l) = X (ix3 ⟨n, hn⟩ r l) := by
  have h0 := startOf_row k n hn hk
  have e0 := Host.clampedStart_of_le (s := S2048x256x128) (t := S1x256x128) rfl (startOf k) 0 n h0 (by exact hn)
  have e1 := Host.clampedStart_of_le (s := S2048x256x128) (t := S1x256x128) rfl (startOf k) 1 0 rfl (by decide)
  have e2 := Host.clampedStart_of_le (s := S2048x256x128) (t := S1x256x128) rfl (startOf k) 2 0 rfl (by decide)
  pointwise
  simp only [e0, e1, e2, Nat.zero_add]

/-- The update at the counter replaces the counter's row. -/
theorem update_at (X : S2048x256x32.Idx → α) (R : S256x32.Idx → α) (T : Fin 2048) (r : Fin 256) (i : Fin 32) :
    Host.dynamicUpdateSlice X (broadcastInDim S1x256x32 ![1, 2] bcast_S256x32_S1x256x32_1_2 R) (startOf k)
      updateFits_S2048x256x32_S1x256x32 (ix3 T r i) = if T.val = n then R (ix2 r i) else X (ix3 T r i) := by
  have h0 := startOf_row k n hn hk
  have e0 := Host.clampedStart_of_le (s := S2048x256x32) (t := S1x256x32) rfl (startOf k) 0 n h0 (by exact hn)
  have e1 := Host.clampedStart_of_le (s := S2048x256x32) (t := S1x256x32) rfl (startOf k) 1 0 rfl (by decide)
  have e2 := Host.clampedStart_of_le (s := S2048x256x32) (t := S1x256x32) rfl (startOf k) 2 0 rfl (by decide)
  pointwise
  simp only [e0, e1, e2, Nat.zero_le, and_true, Nat.sub_zero]
  by_cases h : T.val = n
  · rw [if_pos h, dif_pos (by omega)]
  · rw [if_neg h, dif_neg (by omega)]
end

/-! ## The two products -/

/-- The hidden state times its weights. -/
theorem hidDot_at (H : Vec Ideal S256x32 .f32) (U : Vec Ideal S32x128 .f32) (r : Fin 256) (l : Fin 128) :
    Host.dotGeneral (F := Ideal) (φ₁ := .f32) (φ₂ := .f32) dot_S256x32_S32x128_S256x128_1_0_0_1_n_n none H U
      (ix2 r l) = ∑ k : Fin 32, H (ix2 r k) * U (ix2 k l) := by
  pointwise

/-- The inputs' part of every step's pre-activations, time first. -/
theorem drive_at (a : Args) (n : ℕ) (hn : n < 2048) (r : Fin 256) (l : Fin 128) :
    transpose S2048x256x128 [1, 0, 2]
      (addf (Host.dotGeneral (F := Ideal) (φ₁ := .f32) (φ₂ := .f32) dot_S256x2048x64_S64x128_S256x2048x128_2_0_01_1_n_n none a.x a.w)
        (broadcastInDim S256x2048x128 ![0, 1, 2] bcast_S1x1x128_S256x2048x128_0_1_2
          (broadcastInDim S1x1x128 ![2] bcast_S128_S1x1x128_2 a.b)))
      transposes_S256x2048x128_S2048x256x128_1_0_2 (ix3 ⟨n, hn⟩ r l) = a.drive n r l := by
  unfold Args.drive
  simp only [Nat.mod_eq_of_lt hn]
  pointwise

/-! ## One trip at an entry -/

section
variable (V0 : Valuation τ sig (Elt Ideal)) (n : ℕ) (hn : n < 2048)

/-- The pre-activations: the step's row of the inputs' part, and the hidden state's product. -/
theorem gates_at (X : Vec Ideal S2048x256x128 .f32) (U : Vec Ideal S32x128 .f32) (H : Vec Ideal S256x32 .f32)
    (hX : V0 (Proc.devRef .tc main_v8_0) = X) (hU : V0 (Proc.devRef .tc main_v8_1) = U)
    (hctr : V0 (Proc.devRef .tc main_v8_2) = fun _ => BitVec.ofNat 32 n) (hH : V0 (Proc.devRef .tc main_v8_4) = H)
    (r : Fin 256) (l : Fin 128) : res_main_while0b_v12 V0 (ix2 r l)
    = X (ix3 ⟨n, hn⟩ r l) + ∑ k : Fin 32, H (ix2 r k) * U (ix2 k l) := by
  subst hX hU hH
  refine congrArg₂ (· + ·) (slice_at (V0 (Proc.devRef .tc main_v8_2)) n hn hctr (V0 (Proc.devRef .tc main_v8_0)) r l) ?_
  exact hidDot_at (V0 (Proc.devRef .tc main_v8_4)) (V0 (Proc.devRef .tc main_v8_1)) r l

/-- The cell state after the trip. -/
theorem cell_at (r : Fin 256) (i : Fin 32) : res_main_while0b_v32 V0 (ix2 r i)
    = Ideal.logistic (res_main_while0b_v12 V0 (ix2 r (unitOf 1 i)) : EReal) * (V0 (Proc.devRef .tc main_v8_3) (ix2 r i) : EReal)
      + Ideal.logistic (res_main_while0b_v12 V0 (ix2 r (unitOf 0 i)) : EReal)
        * Ideal.tanh (res_main_while0b_v12 V0 (ix2 r (unitOf 2 i)) : EReal) := by
  have e : unitOf 0 i = ⟨i.val, by omega⟩ := Fin.ext (Nat.zero_add _)
  unfold res_main_while0b_v32
  pointwise
  rw [e]
  rfl

/-- The hidden state after it. -/
theorem hidden_at (r : Fin 256) (i : Fin 32) : res_main_while0b_v40 V0 (ix2 r i)
    = Ideal.logistic (res_main_while0b_v12 V0 (ix2 r (unitOf 3 i)) : EReal)
        * Ideal.tanh (res_main_while0b_v32 V0 (ix2 r i) : EReal) := by
  unfold res_main_while0b_v40
  pointwise
  rfl

include hn in
/-- The rows after it: row `n` is the new hidden state, the others are as they were. -/
theorem rows_at (hctr : V0 (Proc.devRef .tc main_v8_2) = fun _ => BitVec.ofNat 32 n) (T : Fin 2048) (r : Fin 256)
    (i : Fin 32) : step_main_v8_5 V0 (ix3 T r i)
    = if T.val = n then res_main_while0b_v40 V0 (ix2 r i) else V0 (Proc.devRef .tc main_v8_5) (ix3 T r i) :=
  update_at (V0 (Proc.devRef .tc main_v8_2)) n hn hctr (V0 (Proc.devRef .tc main_v8_5)) (res_main_while0b_v40 V0) T r i
end

/-! ## The loop's entry -/

variable (m : (ℓ : Loc nD τ sig) → Buf (Elt Ideal) ℓ) (c : Dev nD)

/-- The reference's arguments. -/
def refArgs : Args where
  x := m ((c : Thread nD τ).loc main_arg0)
  w := m ((c : Thread nD τ).loc main_arg1)
  u := m ((c : Thread nD τ).loc main_arg2)
  b := m ((c : Thread nD τ).loc main_arg3)

/-- The loop is entered with the inputs' part of every step's pre-activations, -/
theorem entry_drive (n : ℕ) (hn : n < 2048) (r : Fin 256) (l : Fin 128) :
    entryContents preI m c (Proc.devRef .tc main_v8_0) (ix3 ⟨n, hn⟩ r l) = (refArgs m c).drive n r l := by
  simp only [entryContents, afterL_cons, afterL_nil]
  after_reads_simp
  exact drive_at (refArgs m c) n hn r l

/-- with the hidden weights, -/
theorem entry_weights : entryContents preI m c (Proc.devRef .tc main_v8_1) = (refArgs m c).u := by
  simp only [entryContents, afterL_cons, afterL_nil]
  after_reads_simp
  rfl

/-- with a zero cell state, -/
theorem entry_cell (r : Fin 256) (i : Fin 32) : entryContents preI m c (Proc.devRef .tc main_v8_3) (ix2 r i) = (0 : EReal) := by
  simp only [entryContents, afterL_cons, afterL_nil]
  after_reads_simp
  simp only [id_eq]
  pointwise

/-- a zero hidden state, -/
theorem entry_hidden (r : Fin 256) (i : Fin 32) : entryContents preI m c (Proc.devRef .tc main_v8_4) (ix2 r i) = (0 : EReal) := by
  simp only [entryContents, afterL_cons, afterL_nil]
  after_reads_simp
  simp only [id_eq]
  pointwise

/-- and the counter at zero. -/
theorem entry_counter : entryContents preI m c (Proc.devRef .tc main_v8_2) = fun _ => BitVec.ofNat 32 0 := by
  simp only [entryContents, afterL_cons, afterL_nil]
  after_reads_simp
  rfl

/-! ## The loop -/

/-- The buffers after `n` trips. -/
def afterTrips (n : ℕ) : Valuation τ sig (Elt Ideal) := STEP^[n] (entryContents preI m c)

/-- One more trip is one more step. -/
theorem afterTrips_succ (n : ℕ) : afterTrips m c (n + 1) = STEP (afterTrips m c n) := Function.iterate_succ_apply' ..

/-- After `n` trips the loop's invariants are unchanged, its counter is `n`, it carries the recurrence's state after `n`
    steps, and row `T` of the `n` written is the hidden state after `T + 1` steps. -/
structure LoopAt (a : Args) (n : ℕ) (V0 : Valuation τ sig (Elt Ideal)) : Prop where
  drive : ∀ T (hT : T < 2048) r l, V0 (Proc.devRef .tc main_v8_0) (ix3 ⟨T, hT⟩ r l) = a.drive T r l
  weights : V0 (Proc.devRef .tc main_v8_1) = a.u
  counter : V0 (Proc.devRef .tc main_v8_2) = fun _ => BitVec.ofNat 32 n
  cell : ∀ r i, V0 (Proc.devRef .tc main_v8_3) (ix2 r i) = (a.state n).1 r i
  hidden : ∀ r i, V0 (Proc.devRef .tc main_v8_4) (ix2 r i) = (a.state n).2 r i
  rows : ∀ (T : Fin 2048) r i, T.val < n → V0 (Proc.devRef .tc main_v8_5) (ix3 T r i) = (a.state (T.val + 1)).2 r i

/-- The invariant holds on entry, -/
theorem loopAt_entry : LoopAt (refArgs m c) 0 (entryContents preI m c) where
  drive := entry_drive m c
  weights := entry_weights m c
  counter := entry_counter m c
  cell := entry_cell m c
  hidden := entry_hidden m c
  rows _ _ _ h := absurd h (Nat.not_lt_zero _)

/-- One trip takes the invariant from `n` to `n + 1`. -/
theorem loopAt_step (a : Args) (n : ℕ) (hn : n < 2048) (V0 : Valuation τ sig (Elt Ideal)) (h : LoopAt a n V0) :
    LoopAt a (n + 1) (STEP V0) := by
  have hg : ∀ r l, res_main_while0b_v12 V0 (ix2 r l) = a.gate n (a.state n).2 r l := fun r l => by
    rw [gates_at V0 n hn _ a.u _ rfl h.weights h.counter rfl]
    unfold Args.gate
    refine congrArg₂ (· + ·) (h.drive n hn r l) (Finset.sum_congr rfl fun k _ => ?_)
    exact congrArg (· * a.u (ix2 k l)) (h.hidden r k)
  have hc : ∀ r i, res_main_while0b_v32 V0 (ix2 r i) = (a.state (n + 1)).1 r i := fun r i => by
    rw [cell_at, hg, hg, hg, h.cell]; rfl
  have hh : ∀ r i, res_main_while0b_v40 V0 (ix2 r i) = (a.state (n + 1)).2 r i := fun r i => by
    rw [hidden_at, hg, hc]; rfl
  refine ⟨fun T hT r l => ?_, ?_, ?_, fun r i => ?_, fun r i => ?_, fun T r i hT => ?_⟩
  · rw [STEP_main_v8_0]; exact h.drive T hT r l
  · rw [STEP_main_v8_1]; exact h.weights
  · rw [STEP_main_v8_2]
    unfold step_main_v8_2
    rw [h.counter]
    funext _
    exact (BitVec.ofNat_add n 1).symm
  · rw [STEP_main_v8_3]; exact hc r i
  · rw [STEP_main_v8_4]; exact hh r i
  · rw [STEP_main_v8_5, rows_at V0 n hn h.counter]
    by_cases e : T.val = n
    · rw [if_pos e, hh, e]
    · rw [if_neg e]; exact h.rows T r i (by omega)

/-- so it holds after every trip. -/
theorem loopAt : ∀ n ≤ 2048, LoopAt (refArgs m c) n (afterTrips m c n)
  | 0, _ => loopAt_entry m c
  | n + 1, h => by
    rw [afterTrips_succ]
    exact loopAt_step _ n h _ (loopAt n (Nat.le_of_succ_le h))

/-- The reference's result is the recurrence's hidden states. -/
theorem reference_eq : out_main_v9 (STEP^[2048] (entryContents preI m c)) = (refArgs m c).hiddens := by
  show out_main_v9 (afterTrips m c 2048) = _
  have h := (loopAt m c 2048 le_rfl).rows
  generalize afterTrips m c 2048 = V0 at h ⊢
  funext j
  refine Eq.trans ?_ (h (j 1) (j 0) (j 2) (j 1).isLt)
  rw [eq_ix3 j]
  unfold out_main_v9
  pointwise

/-- Every execution of the reference ends, its result the hidden states, its arguments unchanged. -/
theorem reference_run (ρ : Dev nD → PrngReg) :
    θ_run (defs (F := Ideal)) (onTc (τ := τ) (main (F := Ideal))) ⟨m, fun _ => 0, ρ⟩ fun r => ∀ c : Dev nD,
      r.2.mem ((c : Thread nD τ).loc main_v9) = (refArgs m c).hiddens
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1.trans (reference_eq m c), (h c).2⟩) (run m ρ)

end Cert.LSTM

end
-- ==== Proof.lean ====
/- The proof of the certificate's claim: the two kernel frames are the generated ones, the reference's its run, and the value
   claim is that both programs' results are the recurrence's hidden states. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Equation
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments, and has no semaphore. -/
theorem quiescent_reference : Cert.quiescent_ReferenceIdeal (hReferenceIdeal := Cert.ReferenceIdeal.Gen.facts) :=
  fun m ρ _ => (θ_run _ _ _).mono (fun r h => ⟨fun c => (h c).2, sem_eq_zero_of_no_sems (by decide) r.2⟩)
    (Cert.ReferenceIdeal.Value.run m ρ)

/-- The value claim: both results are the hidden states of the recurrence of the shared arguments. -/
theorem algebraic : Cert.algebraic_KernelIdeal_ReferenceIdeal (hKernelIdeal := Cert.KernelIdeal.Gen.facts)
    (hReferenceIdeal := Cert.ReferenceIdeal.Gen.facts) := fun m g m' g' _ hargs => by
  have ha : ∀ c, Cert.LSTM.refArgs m' c = Cert.LSTM.argsOf m c := fun c => by
    have e := congr (congr (congr (congrArg Cert.LSTM.Args.mk (hargs c).1) (hargs c).2.1) (hargs c).2.2.1) (hargs c).2.2.2
    exact e
  refine ⟨fun c => (Cert.LSTM.argsOf m c).hiddens, ?_, ?_⟩
  · exact (θ_run _ _ _).mono (fun r h c => ⟨(h c).1.trans (Cert.LSTM.kernelResult_eq m c), (h c).2⟩) (Cert.LSTM.kernel_run m g)
  · exact (θ_run _ _ _).mono (fun r h c => ⟨(h c).1.trans (congrArg Cert.LSTM.Args.hiddens (ha c)), (h c).2⟩)
      (Cert.LSTM.reference_run m' g')

/-- The certificate's claim: the three frames, the idealization, the value claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial, algebraic⟩

end Cert.Proof

end
